-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v28_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v28_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85_0) = v0 c
          ∧ r.2.mem ((c.tc : Thread Cert.ReferenceIdeal.nD Cert.ReferenceIdeal.τ).loc Cert.ReferenceIdeal.main_v85_1) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v85_2) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x2048 : Shape := ⟨3, ![64, 1, 2048]⟩
abbrev S64x1x4x64 : Shape := ⟨4, ![64, 1, 4, 64]⟩
abbrev S64x32768x4x64 : Shape := ⟨4, ![64, 32768, 4, 64]⟩
abbrev S4 : Shape := ⟨1, ![4]⟩
abbrev S64x32x64 : Shape := ⟨3, ![64, 32, 64]⟩
abbrev S1x64x1x32x1x64 : Shape := ⟨6, ![1, 64, 1, 32, 1, 64]⟩
abbrev S1x64x1x32x4x64 : Shape := ⟨6, ![1, 64, 1, 32, 4, 64]⟩
abbrev S64x32x256 : Shape := ⟨3, ![64, 32, 256]⟩
abbrev S32 : Shape := ⟨1, ![32]⟩
abbrev S32x1 : Shape := ⟨2, ![32, 1]⟩
abbrev S_ : Shape := ⟨0, ![]⟩
abbrev S256 : Shape := ⟨1, ![256]⟩
abbrev S1x256 : Shape := ⟨2, ![1, 256]⟩
abbrev S32x256 : Shape := ⟨2, ![32, 256]⟩
abbrev S1x32x256 : Shape := ⟨3, ![1, 32, 256]⟩
abbrev S64x256 : Shape := ⟨2, ![64, 256]⟩
abbrev S4x64 : Shape := ⟨2, ![4, 64]⟩
abbrev S64x4x64x32768 : Shape := ⟨4, ![64, 4, 64, 32768]⟩
abbrev S64x256x32768 : Shape := ⟨3, ![64, 256, 32768]⟩
abbrev S1x256x32768 : Shape := ⟨3, ![1, 256, 32768]⟩
abbrev S1x32x64 : Shape := ⟨3, ![1, 32, 64]⟩
abbrev S32x32768 : Shape := ⟨2, ![32, 32768]⟩
abbrev S1 : Shape := ⟨1, ![1]⟩
abbrev S8x1 : Shape := ⟨2, ![8, 1]⟩
abbrev S32x128 : Shape := ⟨2, ![32, 128]⟩
abbrev S1x256x2048 : Shape := ⟨3, ![1, 256, 2048]⟩
abbrev S256x2048 : Shape := ⟨2, ![256, 2048]⟩
abbrev S32x2048 : Shape := ⟨2, ![32, 2048]⟩
abbrev S64x128 : Shape := ⟨2, ![64, 128]⟩
abbrev S256x128 : Shape := ⟨2, ![256, 128]⟩
abbrev S8x64 : Shape := ⟨2, ![8, 64]⟩
abbrev S1x8x64 : Shape := ⟨3, ![1, 8, 64]⟩

abbrev nBuf : Space → Nat
  | .hbm => 74
  | .vmem => 20
  | .smem => 2
  | _ => 0

abbrev bufTy : (tb : Table) → Fin (tcTables nBuf tb) → BufTy
  | .hbm, ⟨0, _⟩ => ⟨S64x1x2048, .bf16⟩
  | .hbm, ⟨1, _⟩ => ⟨S64x1x4x64, .bf16⟩
  | .hbm, ⟨2, _⟩ => ⟨S64x1x4x64, .bf16⟩
  | .hbm, ⟨3, _⟩ => ⟨S64x32768x4x64, .fp8e4m3⟩
  | .hbm, ⟨4, _⟩ => ⟨S4, .i32⟩
  | .hbm, ⟨5, _⟩ => ⟨S64x32768x4x64, .fp8e4m3⟩
  | .hbm, ⟨6, _⟩ => ⟨S4, .i32⟩
  | .hbm, ⟨7, _⟩ => ⟨S64x32x64, .bf16⟩
  | .hbm, ⟨8, _⟩ => ⟨S1x64x1x32x1x64, .bf16⟩
  | .hbm, ⟨9, _⟩ => ⟨S1x64x1x32x4x64, .bf16⟩
  | .hbm, ⟨10, _⟩ => ⟨S64x32x256, .bf16⟩
  | .hbm, ⟨11, _⟩ => ⟨S32, .i32⟩
  | .hbm, ⟨12, _⟩ => ⟨S32x1, .i32⟩
  | .hbm, ⟨13, _⟩ => ⟨S_, .i32⟩
  | .hbm, ⟨14, _⟩ => ⟨S_, .i32⟩
  | .hbm, ⟨15, _⟩ => ⟨S32x1, .i32⟩
  | .hbm, ⟨16, _⟩ => ⟨S32x1, .i32⟩
  | .hbm, ⟨17, _⟩ => ⟨S32x1, .i32⟩
  | .hbm, ⟨18, _⟩ => ⟨S_, .i32⟩
  | .hbm, ⟨19, _⟩ => ⟨S32x1, .i32⟩
  | .hbm, ⟨20, _⟩ => ⟨S32x1, .i1⟩
  | .hbm, ⟨21, _⟩ => ⟨S32x1, .i32⟩
  | .hbm, ⟨22, _⟩ => ⟨S32x1, .i32⟩
  | .hbm, ⟨23, _⟩ => ⟨S_, .i32⟩
  | .hbm, ⟨24, _⟩ => ⟨S32x1, .i32⟩
  | .hbm, ⟨25, _⟩ => ⟨S32x1, .i1⟩
  | .hbm, ⟨26, _⟩ => ⟨S32x1, .i1⟩
  | .hbm, ⟨27, _⟩ => ⟨S_, .i32⟩
  | .hbm, ⟨28, _⟩ => ⟨S32x1, .i32⟩
  | .hbm, ⟨29, _⟩ => ⟨S32x1, .i32⟩
  | .hbm, ⟨30, _⟩ => ⟨S32x1, .i32⟩
  | .hbm, ⟨31, _⟩ => ⟨S256, .i32⟩
  | .hbm, ⟨32, _⟩ => ⟨S1x256, .i32⟩
  | .hbm, ⟨33, _⟩ => ⟨S_, .i32⟩
  | .hbm, ⟨34, _⟩ => ⟨S_, .i32⟩
  | .hbm, ⟨35, _⟩ => ⟨S1x256, .i32⟩
  | .hbm, ⟨36, _⟩ => ⟨S1x256, .i32⟩
  | .hbm, ⟨37, _⟩ => ⟨S1x256, .i32⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S1x256, .i32⟩
  | .hbm, ⟨42, _⟩ => ⟨S1x256, .i32⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S1x256, .i1⟩
  | .hbm, ⟨47, _⟩ => ⟨S_, .i32⟩
  | .hbm, ⟨48, _⟩ => ⟨S1x256, .i32⟩
  | .hbm, ⟨49, _⟩ => ⟨S1x256, .i32⟩
  | .hbm, ⟨50, _⟩ => ⟨S1x256, .i32⟩
  | .hbm, ⟨51, _⟩ => ⟨S32x256, .i32⟩
  | .hbm, ⟨52, _⟩ => ⟨S32x256, .i32⟩
  | .hbm, ⟨53, _⟩ => ⟨S32x256, .i1⟩
  | .hbm, ⟨54, _⟩ => ⟨S1x32x256, .i1⟩
  | .hbm, ⟨55, _⟩ => ⟨S_, .bf16⟩
  | .hbm, ⟨56, _⟩ => ⟨S64x32x256, .bf16⟩
  | .hbm, ⟨57, _⟩ => ⟨S64x32x256, .i1⟩
  | .hbm, ⟨58, _⟩ => ⟨S64x32x256, .bf16⟩
  | .hbm, ⟨59, _⟩ => ⟨S64x256, .bf16⟩
  | .hbm, ⟨60, _⟩ => ⟨S64x256, .bf16⟩
  | .hbm, ⟨61, _⟩ => ⟨S4x64, .i32⟩
  | .hbm, ⟨62, _⟩ => ⟨S256, .i32⟩
  | .hbm, ⟨63, _⟩ => ⟨S1x256, .i32⟩
  | .hbm, ⟨64, _⟩ => ⟨S4x64, .i32⟩
  | .hbm, ⟨65, _⟩ => ⟨S256, .i32⟩
  | .hbm, ⟨66, _⟩ => ⟨S1x256, .i32⟩
  | .hbm, ⟨67, _⟩ => ⟨S64x4x64x32768, .fp8e4m3⟩
  | .hbm, ⟨68, _⟩ => ⟨S64x256x32768, .fp8e4m3⟩
  | .hbm, ⟨69, _⟩ => ⟨S64x4x64x32768, .fp8e4m3⟩
  | .hbm, ⟨70, _⟩ => ⟨S64x256x32768, .fp8e4m3⟩
  | .hbm, ⟨71, _⟩ => ⟨S64x32x64, .bf16⟩
  | .hbm, ⟨72, _⟩ => ⟨S64x256, .fp8e4m3⟩
  | .hbm, ⟨73, _⟩ => ⟨S64x256, .fp8e4m3⟩
  | .local _ .vmem, ⟨0, _⟩ => ⟨S1x32x256, .bf16⟩
  | .local _ .vmem, ⟨1, _⟩ => ⟨S1x32x256, .bf16⟩
  | .local _ .vmem, ⟨2, _⟩ => ⟨S64x256, .bf16⟩
  | .local _ .vmem, ⟨3, _⟩ => ⟨S64x256, .bf16⟩
  | .local _ .vmem, ⟨4, _⟩ => ⟨S1x256, .i32⟩
  | .local _ .vmem, ⟨5, _⟩ => ⟨S1x256, .i32⟩
  | .local _ .vmem, ⟨6, _⟩ => ⟨S1x256x32768, .fp8e4m3⟩
  | .local _ .vmem, ⟨7, _⟩ => ⟨S1x256x32768, .fp8e4m3⟩
  | .local _ .vmem, ⟨8, _⟩ => ⟨S1x256x32768, .fp8e4m3⟩
  | .local _ .vmem, ⟨9, _⟩ => ⟨S1x256x32768, .fp8e4m3⟩
  | .local _ .vmem, ⟨10, _⟩ => ⟨S1x32x64, .bf16⟩
  | .local _ .vmem, ⟨11, _⟩ => ⟨S1x32x64, .bf16⟩
  | .local _ .vmem, ⟨12, _⟩ => ⟨S64x256, .fp8e4m3⟩
  | .local _ .vmem, ⟨13, _⟩ => ⟨S64x256, .fp8e4m3⟩
  | .local _ .vmem, ⟨14, _⟩ => ⟨S32x32768, .f32⟩
  | .local _ .vmem, ⟨15, _⟩ => ⟨S64x256, .f32⟩
  | .local _ .vmem, ⟨16, _⟩ => ⟨S64x256, .f32⟩
  | .local _ .vmem, ⟨17, _⟩ => ⟨S32x1, .f32⟩
  | .local _ .vmem, ⟨18, _⟩ => ⟨S32x1, .f32⟩
  | .local _ .vmem, ⟨19, _⟩ => ⟨S32x256, .f32⟩
  | .local _ .smem, ⟨0, _⟩ => ⟨S4, .i32⟩
  | .local _ .smem, ⟨1, _⟩ => ⟨S4, .i32⟩
  | _, _ => ⟨S64x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst : Ref sig .tc := ⟨.hbm, 55, rfl⟩
abbrev main_v14 : Ref sig .tc := ⟨.hbm, 56, rfl⟩
abbrev main_call2_v0 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28_0 : Ref sig .tc := ⟨.hbm, 71, rfl⟩
abbrev main_v28_1 : Ref sig .tc := ⟨.hbm, 72, rfl⟩
abbrev main_v28_2 : Ref sig .tc := ⟨.hbm, 73, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_78 : BitVec 32 := 0#32
  let c16_i32 : BitVec 32 := 16#32
  let v164 : BitVec 32 := Scalar.addi c0_i32_78 c16_i32
  let c1_i32 : BitVec 32 := 1#32
  ⟨c0_i32_78, v164, c1_i32⟩
def k0_off1 (k0_t1 : Fin k0_t1_loop.trips) : Fin 3 → Nat :=
  let c0_96 : Index := 0#32
  let c0_97 : Index := 0#32
  let c0_i32_78 : BitVec 32 := 0#32
  let c1_i32 : BitVec 32 := 1#32
  let arg19 : BitVec 32 := Scf.iv c0_i32_78 c1_i32 k0_t1
  let c2048_i32 : BitVec 32 := 2048#32
  let v188 : BitVec 32 := Scalar.muli arg19 c2048_i32
  let v189 : Index := Scalar.indexCast v188
  ![0, 0, v189.toNat]
def k0_off2 (k0_t1 : Fin k0_t1_loop.trips) : Fin 2 → Nat :=
  let c0_100 : Index := 0#32
  let c0_i32_78 : BitVec 32 := 0#32
  let c1_i32 : BitVec 32 := 1#32
  let arg19 : BitVec 32 := Scf.iv c0_i32_78 c1_i32 k0_t1
  let c2048_i32_99 : BitVec 32 := 2048#32
  let v195 : BitVec 32 := Scalar.muli arg19 c2048_i32_99
  let v196 : Index := Scalar.indexCast v195
  ![0, v196.toNat]
@[reducible] def k0_t2_loop : Scf.Loop 32 :=
  let c0_i32_83 : BitVec 32 := 0#32
  let c16_i32_84 : BitVec 32 := 16#32
  let v170 : BitVec 32 := Scalar.addi c0_i32_83 c16_i32_84
  let c1_i32_85 : BitVec 32 := 1#32
  ⟨c0_i32_83, v170, c1_i32_85⟩
def k0_off3 (k0_t2 : Fin k0_t2_loop.trips) : Fin 3 → Nat :=
  let c0_96 : Index := 0#32
  let c0_97 : Index := 0#32
  let c0_i32_83 : BitVec 32 := 0#32
  let c1_i32_85 : BitVec 32 := 1#32
  let arg19 : BitVec 32 := Scf.iv c0_i32_83 c1_i32_85 k0_t2
  let c2048_i32 : BitVec 32 := 2048#32
  let v188 : BitVec 32 := Scalar.muli arg19 c2048_i32
  let v189 : Index := Scalar.indexCast v188
  ![0, 0, v189.toNat]
def k0_off4 (k0_t2 : Fin k0_t2_loop.trips) : Fin 2 → Nat :=
  let c0_99 : Index := 0#32
  let c0_i32_83 : BitVec 32 := 0#32
  let c1_i32_85 : BitVec 32 := 1#32
  let arg19 : BitVec 32 := Scf.iv c0_i32_83 c1_i32_85 k0_t2
  let c2048_i32_98 : BitVec 32 := 2048#32
  let v192 : BitVec 32 := Scalar.muli arg19 c2048_i32_98
  let v193 : Index := Scalar.indexCast v192
  ![0, v193.toNat]
@[reducible] def k0_t3_loop : Scf.Loop 32 :=
  let c0_i32_82 : BitVec 32 := 0#32
  let c16_i32 : BitVec 32 := 16#32
  let v178 : BitVec 32 := Scalar.addi c0_i32_82 c16_i32
  let c1_i32 : BitVec 32 := 1#32
  ⟨c0_i32_82, v178, c1_i32⟩
def k0_off5 (k0_t3 : Fin k0_t3_loop.trips) : Fin 3 → Nat :=
  let c0_98 : Index := 0#32
  let c0_99 : Index := 0#32
  let c0_i32_82 : BitVec 32 := 0#32
  let c1_i32 : BitVec 32 := 1#32
  let arg19 : BitVec 32 := Scf.iv c0_i32_82 c1_i32 k0_t3
  let c2048_i32 : BitVec 32 := 2048#32
  let v197 : BitVec 32 := Scalar.muli arg19 c2048_i32
  let v198 : Index := Scalar.indexCast v197
  ![0, 0, v198.toNat]
def k0_off6 (k0_t3 : Fin k0_t3_loop.trips) : Fin 2 → Nat :=
  let c0_102 : Index := 0#32
  let c0_i32_82 : BitVec 32 := 0#32
  let c1_i32 : BitVec 32 := 1#32
  let arg19 : BitVec 32 := Scf.iv c0_i32_82 c1_i32 k0_t3
  let c2048_i32_101 : BitVec 32 := 2048#32
  let v238 : BitVec 32 := Scalar.muli arg19 c2048_i32_101
  let v239 : Index := Scalar.indexCast v238
  ![0, v239.toNat]
@[reducible] def k0_t4_loop : Scf.Loop 32 :=
  let c0_i32_87 : BitVec 32 := 0#32
  let c16_i32_88 : BitVec 32 := 16#32
  let v184 : BitVec 32 := Scalar.addi c0_i32_87 c16_i32_88
  let c1_i32_89 : BitVec 32 := 1#32
  ⟨c0_i32_87, v184, c1_i32_89⟩
def k0_off7 (k0_t4 : Fin k0_t4_loop.trips) : Fin 3 → Nat :=
  let c0_98 : Index := 0#32
  let c0_99 : Index := 0#32
  let c0_i32_87 : BitVec 32 := 0#32
  let c1_i32_89 : BitVec 32 := 1#32
  let arg19 : BitVec 32 := Scf.iv c0_i32_87 c1_i32_89 k0_t4
  let c2048_i32 : BitVec 32 := 2048#32
  let v197 : BitVec 32 := Scalar.muli arg19 c2048_i32
  let v198 : Index := Scalar.indexCast v197
  ![0, 0, v198.toNat]
def k0_off8 (k0_t4 : Fin k0_t4_loop.trips) : Fin 2 → Nat :=
  let c0_101 : Index := 0#32
  let c0_i32_87 : BitVec 32 := 0#32
  let c1_i32_89 : BitVec 32 := 1#32
  let arg19 : BitVec 32 := Scf.iv c0_i32_87 c1_i32_89 k0_t4
  let c2048_i32_100 : BitVec 32 := 2048#32
  let v235 : BitVec 32 := Scalar.muli arg19 c2048_i32_100
  let v236 : Index := Scalar.indexCast v235
  ![0, v236.toNat]
def k0_off9 (i : grid0.Coords) : Fin 2 → Nat :=
  let arg0 : BitVec 32 := BitVec.ofNat 32 (i 0).val
  let v101 : Index := Scalar.indexCast arg0
  let c0_60 : Index := 0#32
  ![v101.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x32768 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x32768 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S64x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x256 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S64x1x2048 : Shape := ⟨3, ![64, 1, 2048]⟩
abbrev S64x1x4x64 : Shape := ⟨4, ![64, 1, 4, 64]⟩
abbrev S64x32768x4x64 : Shape := ⟨4, ![64, 32768, 4, 64]⟩
abbrev S4 : Shape := ⟨1, ![4]⟩
abbrev S256x8x64 : Shape := ⟨3, ![256, 8, 64]⟩
abbrev S256x64 : Shape := ⟨2, ![256, 64]⟩
abbrev S254 : Shape := ⟨1, ![254]⟩
abbrev S_ : Shape := ⟨0, ![]⟩
abbrev S4x1 : Shape := ⟨2, ![4, 1]⟩
abbrev S1x254 : Shape := ⟨2, ![1, 254]⟩
abbrev S4x254 : Shape := ⟨2, ![4, 254]⟩
abbrev S1x4 : Shape := ⟨2, ![1, 4]⟩
abbrev S64x4 : Shape := ⟨2, ![64, 4]⟩
abbrev S256 : Shape := ⟨1, ![256]⟩
abbrev S256x1 : Shape := ⟨2, ![256, 1]⟩
abbrev S64x4x32768x64 : Shape := ⟨4, ![64, 4, 32768, 64]⟩
abbrev S256x32768x64 : Shape := ⟨3, ![256, 32768, 64]⟩
abbrev S64x32x64 : Shape := ⟨3, ![64, 32, 64]⟩
abbrev S64x256 : Shape := ⟨2, ![64, 256]⟩
abbrev S256x1x1 : Shape := ⟨3, ![256, 1, 1]⟩
abbrev S256x8x32768 : Shape := ⟨3, ![256, 8, 32768]⟩
abbrev S256x1x64 : Shape := ⟨3, ![256, 1, 64]⟩
abbrev S256x8 : Shape := ⟨2, ![256, 8]⟩
abbrev S256x8x1 : Shape := ⟨3, ![256, 8, 1]⟩

abbrev nBuf : Space → Nat
  | .hbm => 133
  | .vmem => 12
  | .smem => 0
  | _ => 0

abbrev hbmTy0_0 (i : Nat) : BufTy := match i % 128 with
  | 0 => ⟨S64x1x2048, .bf16⟩
  | 1 => ⟨S64x1x4x64, .bf16⟩
  | 2 => ⟨S64x1x4x64, .bf16⟩
  | 3 => ⟨S64x32768x4x64, .fp8e4m3⟩
  | 4 => ⟨S4, .i32⟩
  | 5 => ⟨S64x32768x4x64, .fp8e4m3⟩
  | 6 => ⟨S4, .i32⟩
  | 7 => ⟨S4, .f32⟩
  | 8 => ⟨S4, .f32⟩
  | 9 => ⟨S256x8x64, .bf16⟩
  | 10 => ⟨S256x64, .bf16⟩
  | 11 => ⟨S256x64, .bf16⟩
  | 12 => ⟨S4, .f32⟩
  | 13 => ⟨S254, .i32⟩
  | 14 => ⟨S_, .i32⟩
  | 15 => ⟨S254, .i32⟩
  | 16 => ⟨S254, .i32⟩
  | 17 => ⟨S254, .f32⟩
  | 18 => ⟨S4x1, .f32⟩
  | 19 => ⟨S_, .f32⟩
  | 20 => ⟨S254, .f32⟩
  | 21 => ⟨S254, .f32⟩
  | 22 => ⟨S1x254, .f32⟩
  | 23 => ⟨S4x254, .f32⟩
  | 24 => ⟨S4x254, .f32⟩
  | 25 => ⟨S4x254, .i1⟩
  | 26 => ⟨S1x254, .f32⟩
  | 27 => ⟨S_, .f32⟩
  | 28 => ⟨S_, .f32⟩
  | 29 => ⟨S4x254, .f32⟩
  | 30 => ⟨S4x254, .f32⟩
  | 31 => ⟨S4x254, .f32⟩
  | 32 => ⟨S_, .f32⟩
  | 33 => ⟨S4, .f32⟩
  | 34 => ⟨S_, .f32⟩
  | 35 => ⟨S4, .f32⟩
  | 36 => ⟨S4, .i1⟩
  | 37 => ⟨S_, .f32⟩
  | 38 => ⟨S4, .f32⟩
  | 39 => ⟨S4, .i1⟩
  | 40 => ⟨S4, .i1⟩
  | 41 => ⟨S_, .f32⟩
  | 42 => ⟨S4, .f32⟩
  | 43 => ⟨S4, .f32⟩
  | 44 => ⟨S_, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S_, .f32⟩
  | 52 => ⟨S4, .f32⟩
  | 53 => ⟨S4, .i1⟩
  | 54 => ⟨S_, .f32⟩
  | 55 => ⟨S4, .f32⟩
  | 56 => ⟨S4, .f32⟩
  | 57 => ⟨S_, .f32⟩
  | 58 => ⟨S_, .f32⟩
  | 59 => ⟨S4, .f32⟩
  | 60 => ⟨S4, .f32⟩
  | 61 => ⟨S1x4, .f32⟩
  | 62 => ⟨S64x4, .f32⟩
  | 63 => ⟨S256, .f32⟩
  | 64 => ⟨S256x1, .f32⟩
  | 65 => ⟨S4, .f32⟩
  | 66 => ⟨S254, .i32⟩
  | 67 => ⟨S_, .i32⟩
  | 68 => ⟨S254, .i32⟩
  | 69 => ⟨S254, .i32⟩
  | 70 => ⟨S254, .f32⟩
  | 71 => ⟨S4x1, .f32⟩
  | 72 => ⟨S_, .f32⟩
  | 73 => ⟨S254, .f32⟩
  | 74 => ⟨S254, .f32⟩
  | 75 => ⟨S1x254, .f32⟩
  | 76 => ⟨S4x254, .f32⟩
  | 77 => ⟨S4x254, .f32⟩
  | 78 => ⟨S4x254, .i1⟩
  | 79 => ⟨S1x254, .f32⟩
  | 80 => ⟨S_, .f32⟩
  | 81 => ⟨S_, .f32⟩
  | 82 => ⟨S4x254, .f32⟩
  | 83 => ⟨S4x254, .f32⟩
  | 84 => ⟨S4x254, .f32⟩
  | 85 => ⟨S_, .f32⟩
  | 86 => ⟨S4, .f32⟩
  | 87 => ⟨S_, .f32⟩
  | 88 => ⟨S4, .f32⟩
  | 89 => ⟨S4, .i1⟩
  | 90 => ⟨S_, .f32⟩
  | 91 => ⟨S4, .f32⟩
  | 92 => ⟨S4, .i1⟩
  | 93 => ⟨S4, .i1⟩
  | 94 => ⟨S_, .f32⟩
  | 95 => ⟨S4, .f32⟩
  | 96 => ⟨S4, .f32⟩
  | 97 => ⟨S_, .f32⟩
  | 98 => ⟨S_, .f32⟩
  | 99 => ⟨S4, .f32⟩
  | 100 => ⟨S4, .f32⟩
  | 101 => ⟨S_, .f32⟩
  | 102 => ⟨S4, .f32⟩
  | 103 => ⟨S4, .f32⟩
  | 104 => ⟨S_, .f32⟩
  | 105 => ⟨S4, .f32⟩
  | 106 => ⟨S4, .i1⟩
  | 107 => ⟨S_, .f32⟩
  | 108 => ⟨S4, .f32⟩
  | 109 => ⟨S4, .f32⟩
  | 110 => ⟨S_, .f32⟩
  | 111 => ⟨S_, .f32⟩
  | 112 => ⟨S4, .f32⟩
  | 113 => ⟨S4, .f32⟩
  | 114 => ⟨S1x4, .f32⟩
  | 115 => ⟨S64x4, .f32⟩
  | 116 => ⟨S256, .f32⟩
  | 117 => ⟨S256x1, .f32⟩
  | 118 => ⟨S1x4, .f32⟩
  | 119 => ⟨S64x4, .f32⟩
  | 120 => ⟨S256, .f32⟩
  | 121 => ⟨S256x1, .f32⟩
  | 122 => ⟨S1x4, .f32⟩
  | 123 => ⟨S64x4, .f32⟩
  | 124 => ⟨S256, .f32⟩
  | 125 => ⟨S256x1, .f32⟩
  | 126 => ⟨S64x4x32768x64, .fp8e4m3⟩
  | 127 => ⟨S256x32768x64, .fp8e4m3⟩
  | _ => ⟨S64x1x2048, .bf16⟩

abbrev hbmTy0_1 (i : Nat) : BufTy := match i % 128 with
  | 0 => ⟨S64x4x32768x64, .fp8e4m3⟩
  | 1 => ⟨S256x32768x64, .fp8e4m3⟩
  | 2 => ⟨S64x32x64, .bf16⟩
  | 3 => ⟨S64x256, .fp8e4m3⟩
  | 4 => ⟨S64x256, .fp8e4m3⟩
  | _ => ⟨S64x1x2048, .bf16⟩

abbrev hbmTy (i : Nat) : BufTy := match i / 128 with
  | 0 => hbmTy0_0 i
  | 1 => hbmTy0_1 i
  | _ => ⟨S64x1x2048, .bf16⟩

abbrev bufTy : (tb : Table) → Fin (tcTables nBuf tb) → BufTy
  | .hbm, ⟨i, _⟩ => hbmTy i
  | .local _ .vmem, ⟨0, _⟩ => ⟨S256x8x64, .bf16⟩
  | .local _ .vmem, ⟨1, _⟩ => ⟨S256x64, .bf16⟩
  | .local _ .vmem, ⟨2, _⟩ => ⟨S256x64, .bf16⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x32768x64, .fp8e4m3⟩
  | .local _ .vmem, ⟨8, _⟩ => ⟨S256x32768x64, .fp8e4m3⟩
  | .local _ .vmem, ⟨9, _⟩ => ⟨S64x32x64, .bf16⟩
  | .local _ .vmem, ⟨10, _⟩ => ⟨S64x256, .fp8e4m3⟩
  | .local _ .vmem, ⟨11, _⟩ => ⟨S64x256, .fp8e4m3⟩
  | _, _ => ⟨S64x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_call2_v0 : Ref sig .tc := ⟨.hbm, 58, rfl⟩
abbrev main_call2_v1 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_cst_14 : Ref sig .tc := ⟨.hbm, 87, rfl⟩
abbrev main_v54 : Ref sig .tc := ⟨.hbm, 88, rfl⟩
abbrev main_v55 : Ref sig .tc := ⟨.hbm, 89, rfl⟩
abbrev main_cst_15 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_16 : Ref sig .tc := ⟨.hbm, 94, rfl⟩
abbrev main_v59 : Ref sig .tc := ⟨.hbm, 95, rfl⟩
abbrev main_v60 : Ref sig .tc := ⟨.hbm, 96, rfl⟩
abbrev main_cst_17 : Ref sig .tc := ⟨.hbm, 97, rfl⟩
abbrev main_call4_v0 : Ref sig .tc := ⟨.hbm, 98, rfl⟩
abbrev main_call4_v1 : Ref sig .tc := ⟨.hbm, 99, rfl⟩
abbrev main_v61 : Ref sig .tc := ⟨.hbm, 100, rfl⟩
abbrev main_cst_18 : Ref sig .tc := ⟨.hbm, 101, rfl⟩
abbrev main_v62 : Ref sig .tc := ⟨.hbm, 102, rfl⟩
abbrev main_v63 : Ref sig .tc := ⟨.hbm, 103, rfl⟩
abbrev main_cst_19 : Ref sig .tc := ⟨.hbm, 104, rfl⟩
abbrev main_v64 : Ref sig .tc := ⟨.hbm, 105, rfl⟩
abbrev main_v65 : Ref sig .tc := ⟨.hbm, 106, rfl⟩
abbrev main_cst_20 : Ref sig .tc := ⟨.hbm, 107, rfl⟩
abbrev main_v66 : Ref sig .tc := ⟨.hbm, 108, rfl⟩
abbrev main_v67 : Ref sig .tc := ⟨.hbm, 109, rfl⟩
abbrev main_cst_21 : Ref sig .tc := ⟨.hbm, 110, rfl⟩
abbrev main_call5_v0 : Ref sig .tc := ⟨.hbm, 111, rfl⟩
abbrev main_call5_v1 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85_0 : Ref sig .tc := ⟨.hbm, 130, rfl⟩
abbrev main_v85_1 : Ref sig .tc := ⟨.hbm, 131, rfl⟩
abbrev main_v85_2 : Ref sig .tc := ⟨.hbm, 132, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x32768x64 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x32768x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x32x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x256 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelBody.lean ====
/- The branch conditions of the kernel's body, its staging buffers and its scratch buffers, by name, over any floats. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 0)

/-- The condition of the body's `scf.if` 1: over WORDS the body reads from its input SMEM windows
    (`v5`, `v15`, `v25`, `v35`, `v45`, `v55`, `v65`, `v75`), so no function of the point — a case variable: a hypothesis of each run, a `by_cases`
    of the obligation and an `if` of `outsAt`, stated over the argument blocks' words there. -/
abbrev cond0_1 (i : grid0.Coords) (v5 : BitVec 32) (v15 : BitVec 32) (v25 : BitVec 32) (v35 : BitVec 32) (v45 : BitVec 32) (v55 : BitVec 32) (v65 : BitVec 32) (v75 : BitVec 32) : Prop := (Scalar.cmpi .ne (Scalar.extui (Scalar.andi (Scalar.andi (Scalar.andi (Scalar.andi (Scalar.andi (Scalar.andi (Scalar.andi (Scalar.andi (Scalar.andi (Scalar.cmpi .eq (Scalar.andi v5 8388607#32) 0#32) (Scalar.cmpi .sgt v5 0#32)) (Scalar.cmpi .sle (Scalar.absi (Scalar.subi (Scalar.shrsi v5 23#32) 127#32)) 40#32)) (Scalar.andi (Scalar.andi (Scalar.cmpi .eq (Scalar.andi v15 8388607#32) 0#32) (Scalar.cmpi .sgt v15 0#32)) (Scalar.cmpi .sle (Scalar.absi (Scalar.subi (Scalar.shrsi v15 23#32) 127#32)) 40#32))) (Scalar.andi (Scalar.andi (Scalar.cmpi .eq (Scalar.andi v25 8388607#32) 0#32) (Scalar.cmpi .sgt v25 0#32)) (Scalar.cmpi .sle (Scalar.absi (Scalar.subi (Scalar.shrsi v25 23#32) 127#32)) 40#32))) (Scalar.andi (Scalar.andi (Scalar.cmpi .eq (Scalar.andi v35 8388607#32) 0#32) (Scalar.cmpi .sgt v35 0#32)) (Scalar.cmpi .sle (Scalar.absi (Scalar.subi (Scalar.shrsi v35 23#32) 127#32)) 40#32))) (Scalar.andi (Scalar.andi (Scalar.cmpi .eq (Scalar.andi v45 8388607#32) 0#32) (Scalar.cmpi .sgt v45 0#32)) (Scalar.cmpi .sle (Scalar.absi (Scalar.subi (Scalar.shrsi v45 23#32) 127#32)) 40#32))) (Scalar.andi (Scalar.andi (Scalar.cmpi .eq (Scalar.andi v55 8388607#32) 0#32) (Scalar.cmpi .sgt v55 0#32)) (Scalar.cmpi .sle (Scalar.absi (Scalar.subi (Scalar.shrsi v55 23#32) 127#32)) 40#32))) (Scalar.andi (Scalar.andi (Scalar.cmpi .eq (Scalar.andi v65 8388607#32) 0#32) (Scalar.cmpi .sgt v65 0#32)) (Scalar.cmpi .sle (Scalar.absi (Scalar.subi (Scalar.shrsi v65 23#32) 127#32)) 40#32))) (Scalar.andi (Scalar.andi (Scalar.cmpi .eq (Scalar.andi v75 8388607#32) 0#32) (Scalar.cmpi .sgt v75 0#32)) (Scalar.cmpi .sle (Scalar.absi (Scalar.subi (Scalar.shrsi v75 23#32) 127#32)) 40#32)))) 0#32) = 1#1

/-- The condition of the body's `scf.if` 2: over WORDS the body reads from its input SMEM windows
    (`v5`, `v15`, `v25`, `v35`, `v45`, `v55`, `v65`, `v75`), so no function of the point — a case variable: a hypothesis of each run, a `by_cases`
    of the obligation and an `if` of `outsAt`, stated over the argument blocks' words there. -/
abbrev cond0_2 (i : grid0.Coords) (v5 : BitVec 32) (v15 : BitVec 32) (v25 : BitVec 32) (v35 : BitVec 32) (v45 : BitVec 32) (v55 : BitVec 32) (v65 : BitVec 32) (v75 : BitVec 32) : Prop := (Scalar.cmpi .ne (Scalar.extui (Scalar.xori (Scalar.andi (Scalar.andi (Scalar.andi (Scalar.andi (Scalar.andi (Scalar.andi (Scalar.andi (Scalar.andi (Scalar.andi (Scalar.cmpi .eq (Scalar.andi v5 8388607#32) 0#32) (Scalar.cmpi .sgt v5 0#32)) (Scalar.cmpi .sle (Scalar.absi (Scalar.subi (Scalar.shrsi v5 23#32) 127#32)) 40#32)) (Scalar.andi (Scalar.andi (Scalar.cmpi .eq (Scalar.andi v15 8388607#32) 0#32) (Scalar.cmpi .sgt v15 0#32)) (Scalar.cmpi .sle (Scalar.absi (Scalar.subi (Scalar.shrsi v15 23#32) 127#32)) 40#32))) (Scalar.andi (Scalar.andi (Scalar.cmpi .eq (Scalar.andi v25 8388607#32) 0#32) (Scalar.cmpi .sgt v25 0#32)) (Scalar.cmpi .sle (Scalar.absi (Scalar.subi (Scalar.shrsi v25 23#32) 127#32)) 40#32))) (Scalar.andi (Scalar.andi (Scalar.cmpi .eq (Scalar.andi v35 8388607#32) 0#32) (Scalar.cmpi .sgt v35 0#32)) (Scalar.cmpi .sle (Scalar.absi (Scalar.subi (Scalar.shrsi v35 23#32) 127#32)) 40#32))) (Scalar.andi (Scalar.andi (Scalar.cmpi .eq (Scalar.andi v45 8388607#32) 0#32) (Scalar.cmpi .sgt v45 0#32)) (Scalar.cmpi .sle (Scalar.absi (Scalar.subi (Scalar.shrsi v45 23#32) 127#32)) 40#32))) (Scalar.andi (Scalar.andi (Scalar.cmpi .eq (Scalar.andi v55 8388607#32) 0#32) (Scalar.cmpi .sgt v55 0#32)) (Scalar.cmpi .sle (Scalar.absi (Scalar.subi (Scalar.shrsi v55 23#32) 127#32)) 40#32))) (Scalar.andi (Scalar.andi (Scalar.cmpi .eq (Scalar.andi v65 8388607#32) 0#32) (Scalar.cmpi .sgt v65 0#32)) (Scalar.cmpi .sle (Scalar.absi (Scalar.subi (Scalar.shrsi v65 23#32) 127#32)) 40#32))) (Scalar.andi (Scalar.andi (Scalar.cmpi .eq (Scalar.andi v75 8388607#32) 0#32) (Scalar.cmpi .sgt v75 0#32)) (Scalar.cmpi .sle (Scalar.absi (Scalar.subi (Scalar.shrsi v75 23#32) 127#32)) 40#32))) 1#1)) 0#32) = 1#1

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x32768 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x32768 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x64 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x256 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x256 .fp8e4m3 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S32x32768 .f32 := Memref.whole cc0_scratch0
abbrev scM0_1 : Memref sig .tc .vmem S64x256 .f32 := Memref.whole cc0_scratch1
abbrev scM0_2 : Memref sig .tc .vmem S64x256 .f32 := Memref.whole cc0_scratch2
abbrev scM0_3 : Memref sig .tc .vmem S32x1 .f32 := Memref.whole cc0_scratch3
abbrev scM0_4 : Memref sig .tc .vmem S32x1 .f32 := Memref.whole cc0_scratch4
abbrev scM0_5 : Memref sig .tc .vmem S32x256 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The kernel's two branches on the scales exclude each other: exactly one is taken. -/
theorem branches (i : grid0.Coords) (a b c d e f g h : BitVec 32) :
    (cond0_1 i a b c d e f g h ∧ ¬ cond0_2 i a b c d e f g h) ∨ (¬ cond0_1 i a b c d e f g h ∧ cond0_2 i a b c d e f g h) := by
  have wide : ∀ x : BitVec 1, (Scalar.cmpi .ne (Scalar.extui x) 0#32 = 1#1) ↔ x = 1#1 := by decide
  have neg : ∀ x : BitVec 1, Scalar.xori x 1#1 = 1#1 ↔ ¬ x = 1#1 := by decide
  have hiff : cond0_2 i a b c d e f g h ↔ ¬ cond0_1 i a b c d e f g h := by
    unfold cond0_2 cond0_1
    rw [wide, wide, neg]
  by_cases h1 : cond0_1 i a b c d e f g h
  · exact Or.inl ⟨h1, fun h2 => hiff.mp h2 h1⟩
  · exact Or.inr ⟨h1, hiff.mpr h1⟩

end Cert.Kernel.Gen

end
-- ==== Proof.KernelRun.lean ====
/- The kernel's body run once, over any floats: it reads its inputs and leaves them as they were. -/
module

public import proofs.«01_k».proof.Proof.KernelBody

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (four runs in one proof: checking it walks past the default budget)
set_option maxHeartbeats 8000000 in
/-- One run of the body. From the inputs' blocks, whatever the other buffers hold, it gives the inputs back as they were and the
    other buffers at something; the three outputs and the scratch are not named. The proof runs it once for each of the four ways
    its branches can go: the first grid point or a later one, foldable scales or not. -/
theorem kernelRun (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_gqa_decode_fp8_eq_skeleton]; unfold cc0_gqa_decode_fp8_skel
    simp only [k0_part7_eq_skeleton, k0_part1_eq_skeleton, k0_part2_eq_skeleton, k0_part8_eq_skeleton, k0_part9_eq_skeleton, k0_part3_eq_skeleton, k0_part6_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    obtain ⟨hc1, hc2⟩ | ⟨hc1, hc2⟩ := branches i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))
    all_goals by_cases hc0 : cond0_0 i
    all_goals
      sl_exec (disch := first | sl_exact hc0 | sl_exact hc1 | sl_exact hc2)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      iexists _, _; isplitr; swap; · iexact HS5
      ipureintro; rfl

end Cert.Kernel.Gen

end
-- ==== Proof.KernelFrame.lean ====
/- The frame of the kernel over any floats: it ends and leaves its arguments as they were. -/
module

public import proofs.«01_k».proof.Proof.KernelRun
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From a run that leaves every input array as it was: the argument arrays end unchanged. -/
theorem frame_of_inputs (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 0 rfl).trans ((hA c 0).trans (V_main_arg4 m c)),
      ((h c).2 main_arg5 (Pipeline.mem_restRefs_of main_arg5 (by decide) (by decide))).trans (V_main_arg5 m c),
      (Pipeline.RDat.FramePost.arr_in h c 1 rfl).trans ((hA c 1).trans (V_main_arg6 m c))⟩) h

/-! ## The pipeline's proof data -/

/-- The output windows, of which nothing is named: the three outputs. -/
def forgets0 : Fin 12 → Bool := fun w => w.val == 9 || w.val == 10 || w.val == 11

/-- The run's data: the arrays as the kernel finds them; after the body each input's buffer at its block; the outputs and the scratch unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The data's arrays are those that the kernel finds. -/
theorem A_eq (c : Dev nD) (w : Fin cfg0.W) : (dats m 0 c).A w = V m c (Pipeline.arrRef spec0 w) := by
  dsimp only [dats]

/-- What the body leaves in each input's buffer: its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- What each input's buffer holds before the body: its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (∃ d, owns (c : Thread nD τ) (ms0_10 t) fullShare d)
    ∗ (∃ d, owns (c : Thread nD τ) (ms0_11 t) fullShare d))

/-! What the body leaves in an input's buffer is the input's block. -/

/-- The body leaves input 0's block in its buffer. -/
theorem leaves_0 (c : Dev nD) (t : Fin cfg0.N) :
    (dats m 0 c).leavesExact 0 t = owns (c : Thread nD τ) (ms0_0 t) fullShare (iblk m c 0 t) := by
  unfold Dat.leavesExact; rw [liveAt0_0 t, after0_0]
/-- The body leaves input 1's block in its buffer. -/
theorem leaves_1 (c : Dev nD) (t : Fin cfg0.N) :
    (dats m 0 c).leavesExact 1 t = owns (c : Thread nD τ) (ms0_1 t) fullShare (iblk m c 1 t) := by
  unfold Dat.leavesExact; rw [liveAt0_1 t, after0_1]
/-- The body leaves input 2's block in its buffer. -/
theorem leaves_2 (c : Dev nD) (t : Fin cfg0.N) :
    (dats m 0 c).leavesExact 2 t = owns (c : Thread nD τ) (ms0_2 t) fullShare (iblk m c 2 t) := by
  unfold Dat.leavesExact; rw [liveAt0_2 t, after0_2]
/-- The body leaves input 3's block in its buffer. -/
theorem leaves_3 (c : Dev nD) (t : Fin cfg0.N) :
    (dats m 0 c).leavesExact 3 t = owns (c : Thread nD τ) (ms0_3 t) fullShare (iblk m c 3 t) := by
  unfold Dat.leavesExact; rw [liveAt0_3 t, after0_3]
/-- The body leaves input 4's block in its buffer. -/
theorem leaves_4 (c : Dev nD) (t : Fin cfg0.N) :
    (dats m 0 c).leavesExact 4 t = owns (c : Thread nD τ) (ms0_4 t) fullShare (iblk m c 4 t) := by
  unfold Dat.leavesExact; rw [liveAt0_4 t, after0_4]
/-- The body leaves input 5's block in its buffer. -/
theorem leaves_5 (c : Dev nD) (t : Fin cfg0.N) :
    (dats m 0 c).leavesExact 5 t = owns (c : Thread nD τ) (ms0_5 t) fullShare (iblk m c 5 t) := by
  unfold Dat.leavesExact; rw [liveAt0_5 t, after0_5]
/-- The body leaves input 6's block in its buffer. -/
theorem leaves_6 (c : Dev nD) (t : Fin cfg0.N) :
    (dats m 0 c).leavesExact 6 t = owns (c : Thread nD τ) (ms0_6 t) fullShare (iblk m c 6 t) := by
  unfold Dat.leavesExact; rw [liveAt0_6 t, after0_6]
/-- The body leaves input 7's block in its buffer. -/
theorem leaves_7 (c : Dev nD) (t : Fin cfg0.N) :
    (dats m 0 c).leavesExact 7 t = owns (c : Thread nD τ) (ms0_7 t) fullShare (iblk m c 7 t) := by
  unfold Dat.leavesExact; rw [liveAt0_7 t, after0_7]
/-- The body leaves input 8's block in its buffer. -/
theorem leaves_8 (c : Dev nD) (t : Fin cfg0.N) :
    (dats m 0 c).leavesExact 8 t = owns (c : Thread nD τ) (ms0_8 t) fullShare (iblk m c 8 t) := by
  unfold Dat.leavesExact; rw [liveAt0_8 t, after0_8]

set_option maxHeartbeats 3200000 in
/-- The body at any point: each input buffer holds its block, so `kernelRun` applies; it returns the inputs as they were and everything
    else at something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  simp only [leaves_0, leaves_1, leaves_2, leaves_3, leaves_4, leaves_5, leaves_6, leaves_7, leaves_8]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body that the launch calls at point `t` is the one at that point. -/
theorem defs₀_row (t : Fin cfg0.N) :
    defs₀ (F := F) .tc cfg0.body (cfg0.bodyArgs t (cfg0.slots t)) = bodyAt0 t := by
  unfold defs₀; rw [Defs.onTc_tc]

/-- The body does at every point what the run's data says. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The kernel runs to the end: every input array is as it was, and every counter is at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The kernel runs to the end with every input array as it was. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_inputs m ρ (fun c => (dats m 0 c).toRForget forgets0) (A_eq m) (run_main m ρ)

/-- The frame of the kernel, over any floats: it ends, its argument arrays are as they were, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.HostK.lean ====
/- The arrays that the host hands to the kernel, entry by entry, and the blocks that the grid points read of them. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL.Sem

variable (m : (ℓ : Loc nD τ sig) → Buf (Elt Ideal) ℓ)

/-- The new keys, one row per batch element. -/
theorem entry_kn (c : Dev nD) (b : Fin 64) (x : Fin 256) :
    (V m c main_v16 : Vec Ideal S64x256 .bf16) (ix2 b x) = (m ((c : Thread nD τ).loc main_arg1) : Vec Ideal S64x1x4x64 .bf16) (ix4 b 0 ⟨x / 64, by omega⟩ ⟨x % 64, by omega⟩) := by
  simp only [V, hostOps0, hostOps0_1, hostOps0_2, hostOps0_3, hostOps0_4, hostOps0_5, hostOps0_6, List.flatten_cons, List.flatten_nil, List.append_nil, List.cons_append, List.nil_append]
  entry_read
  pointwise

/-- The new values, one row per batch element. -/
theorem entry_vn (c : Dev nD) (b : Fin 64) (x : Fin 256) :
    (V m c main_v17 : Vec Ideal S64x256 .bf16) (ix2 b x) = (m ((c : Thread nD τ).loc main_arg2) : Vec Ideal S64x1x4x64 .bf16) (ix4 b 0 ⟨x / 64, by omega⟩ ⟨x % 64, by omega⟩) := by
  simp only [V, hostOps0, hostOps0_1, hostOps0_2, hostOps0_3, hostOps0_4, hostOps0_5, hostOps0_6, List.flatten_cons, List.flatten_nil, List.append_nil, List.cons_append, List.nil_append]
  entry_read
  pointwise

/-- The words of the key scales, one per column. -/
theorem entry_ks (c : Dev nD) (x : Fin 256) :
    (V m c main_v20 : Vec Ideal S1x256 .i32) (ix2 0 x) = (m ((c : Thread nD τ).loc main_arg4) : Vec Ideal S4 .i32) (ix1 ⟨x / 64, by omega⟩) := by
  simp only [V, hostOps0, hostOps0_1, hostOps0_2, hostOps0_3, hostOps0_4, hostOps0_5, hostOps0_6, List.flatten_cons, List.flatten_nil, List.append_nil, List.cons_append, List.nil_append]
  entry_read
  pointwise

/-- The words of the value scales, one per column. -/
theorem entry_vs (c : Dev nD) (x : Fin 256) :
    (V m c main_v23 : Vec Ideal S1x256 .i32) (ix2 0 x) = (m ((c : Thread nD τ).loc main_arg6) : Vec Ideal S4 .i32) (ix1 ⟨x / 64, by omega⟩) := by
  simp only [V, hostOps0, hostOps0_1, hostOps0_2, hostOps0_3, hostOps0_4, hostOps0_5, hostOps0_6, List.flatten_cons, List.flatten_nil, List.append_nil, List.cons_append, List.nil_append]
  entry_read
  pointwise

/-- The key codes, the cached rows last. -/
theorem entry_kc (c : Dev nD) (b : Fin 64) (x : Fin 256) (j : Fin 32768) :
    (V m c main_v25 : Vec Ideal S64x256x32768 .fp8e4m3) (ix3 b x j) = (m ((c : Thread nD τ).loc main_arg3) : Vec Ideal S64x32768x4x64 .fp8e4m3) (ix4 b j ⟨x / 64, by omega⟩ ⟨x % 64, by omega⟩) := by
  simp only [V, hostOps0, hostOps0_1, hostOps0_2, hostOps0_3, hostOps0_4, hostOps0_5, hostOps0_6, List.flatten_cons, List.flatten_nil, List.append_nil, List.cons_append, List.nil_append]
  entry_read
  pointwise

/-- The value codes, the cached rows last. -/
theorem entry_vc (c : Dev nD) (b : Fin 64) (x : Fin 256) (j : Fin 32768) :
    (V m c main_v27 : Vec Ideal S64x256x32768 .fp8e4m3) (ix3 b x j) = (m ((c : Thread nD τ).loc main_arg5) : Vec Ideal S64x32768x4x64 .fp8e4m3) (ix4 b j ⟨x / 64, by omega⟩ ⟨x % 64, by omega⟩) := by
  simp only [V, hostOps0, hostOps0_1, hostOps0_2, hostOps0_3, hostOps0_4, hostOps0_5, hostOps0_6, List.flatten_cons, List.flatten_nil, List.append_nil, List.cons_append, List.nil_append]
  entry_read
  pointwise

/-- The quotient of two words rounded down, as the host computes it: the truncated quotient, less one where the signs differ and the division leaves a remainder. -/
def floorDiv (a b : BitVec 32) : BitVec 32 :=
  Scalar.select
    (IntOp.andi
      (IntOp.cmpi CmpIPredicate.ne
        (if a = 0 then 0 else if a.msb = true then -1 else 1 : BitVec 32)
        (if b = 0 then 0 else if b.msb = true then -1 else 1 : BitVec 32))
      (IntOp.cmpi CmpIPredicate.ne (IntOp.remsi ArithUnit.host a b) 0#32))
    (IntOp.subi (IntOp.divsi ArithUnit.host a b) 1#32)
    (IntOp.divsi ArithUnit.host a b)

theorem floorDiv_row : ∀ r : Fin 32, floorDiv (BitVec.ofNat 32 r) 8#32 = BitVec.ofNat 32 (r / 8) := by decide +kernel

theorem floorDiv_col : ∀ x : Fin 256, floorDiv (BitVec.ofNat 32 x) 64#32 = BitVec.ofNat 32 (x / 64) := by decide +kernel

theorem heads_eq : ∀ (a b : Fin 4), IntOp.cmpi CmpIPredicate.eq (BitVec.ofNat 32 (a : ℕ)) (BitVec.ofNat 32 (b : ℕ)) = if (b : ℕ) = a then 1#1 else 0#1 := by decide +kernel

/-- The queries: each row keeps the columns of its own head and is zero elsewhere. -/
theorem entry_q (c : Dev nD) (b : Fin 64) (r : Fin 32) (x : Fin 256) :
    (V m c main_v15 : Vec Ideal S64x32x256 .bf16) (ix3 b r x)
      = show EReal from if (x : ℕ) / 64 = r / 8 then (m ((c : Thread nD τ).loc main_arg0) : Vec Ideal S64x1x2048 .bf16) (ix3 b 0 ⟨64 * r + x % 64, by omega⟩) else (0 : EReal) := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise
  have h := heads_eq ⟨r / 8, by omega⟩ ⟨x / 64, by omega⟩
  have hr := floorDiv_row r
  have hx := floorDiv_col x
  change Scalar.select (IntOp.cmpi CmpIPredicate.eq (floorDiv (BitVec.ofNat 32 r) 8#32) (floorDiv (BitVec.ofNat 32 x) 64#32)) _ _ = _
  rw [hr, hx]
  rw [show IntOp.cmpi CmpIPredicate.eq (BitVec.ofNat 32 ((r : ℕ) / 8)) (BitVec.ofNat 32 ((x : ℕ) / 64)) = if (x : ℕ) / 64 = r / 8 then 1#1 else 0#1 from h]
  by_cases hh : (x : ℕ) / 64 = r / 8
  · rw [if_pos hh, if_pos hh]
    refine congrArg _ (congrArg (fun k => ix3 b 0 k) (Fin.ext ?_))
    show (r : ℕ) * 64 + x % 64 = 64 * r + x % 64
    omega
  · rw [if_neg hh, if_neg hh]; rfl

end Cert.KernelIdeal.Gen

end
-- ==== Proof.Conditions.lean ====
/- The branch conditions of the kernel's body, its staging buffers and its scratch buffers, by name. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 0)

/-- The condition of the body's `scf.if` 1: over WORDS the body reads from its input SMEM windows
    (`v5`, `v15`, `v25`, `v35`, `v45`, `v55`, `v65`, `v75`), so no function of the point — a case variable: a hypothesis of each run, a `by_cases`
    of the obligation and an `if` of `outsAt`, stated over the argument blocks' words there. -/
abbrev cond0_1 (i : grid0.Coords) (v5 : BitVec 32) (v15 : BitVec 32) (v25 : BitVec 32) (v35 : BitVec 32) (v45 : BitVec 32) (v55 : BitVec 32) (v65 : BitVec 32) (v75 : BitVec 32) : Prop := (Scalar.cmpi .ne (Scalar.extui (Scalar.andi (Scalar.andi (Scalar.andi (Scalar.andi (Scalar.andi (Scalar.andi (Scalar.andi (Scalar.andi (Scalar.andi (Scalar.cmpi .eq (Scalar.andi v5 8388607#32) 0#32) (Scalar.cmpi .sgt v5 0#32)) (Scalar.cmpi .sle (Scalar.absi (Scalar.subi (Scalar.shrsi v5 23#32) 127#32)) 40#32)) (Scalar.andi (Scalar.andi (Scalar.cmpi .eq (Scalar.andi v15 8388607#32) 0#32) (Scalar.cmpi .sgt v15 0#32)) (Scalar.cmpi .sle (Scalar.absi (Scalar.subi (Scalar.shrsi v15 23#32) 127#32)) 40#32))) (Scalar.andi (Scalar.andi (Scalar.cmpi .eq (Scalar.andi v25 8388607#32) 0#32) (Scalar.cmpi .sgt v25 0#32)) (Scalar.cmpi .sle (Scalar.absi (Scalar.subi (Scalar.shrsi v25 23#32) 127#32)) 40#32))) (Scalar.andi (Scalar.andi (Scalar.cmpi .eq (Scalar.andi v35 8388607#32) 0#32) (Scalar.cmpi .sgt v35 0#32)) (Scalar.cmpi .sle (Scalar.absi (Scalar.subi (Scalar.shrsi v35 23#32) 127#32)) 40#32))) (Scalar.andi (Scalar.andi (Scalar.cmpi .eq (Scalar.andi v45 8388607#32) 0#32) (Scalar.cmpi .sgt v45 0#32)) (Scalar.cmpi .sle (Scalar.absi (Scalar.subi (Scalar.shrsi v45 23#32) 127#32)) 40#32))) (Scalar.andi (Scalar.andi (Scalar.cmpi .eq (Scalar.andi v55 8388607#32) 0#32) (Scalar.cmpi .sgt v55 0#32)) (Scalar.cmpi .sle (Scalar.absi (Scalar.subi (Scalar.shrsi v55 23#32) 127#32)) 40#32))) (Scalar.andi (Scalar.andi (Scalar.cmpi .eq (Scalar.andi v65 8388607#32) 0#32) (Scalar.cmpi .sgt v65 0#32)) (Scalar.cmpi .sle (Scalar.absi (Scalar.subi (Scalar.shrsi v65 23#32) 127#32)) 40#32))) (Scalar.andi (Scalar.andi (Scalar.cmpi .eq (Scalar.andi v75 8388607#32) 0#32) (Scalar.cmpi .sgt v75 0#32)) (Scalar.cmpi .sle (Scalar.absi (Scalar.subi (Scalar.shrsi v75 23#32) 127#32)) 40#32)))) 0#32) = 1#1

/-- The condition of the body's `scf.if` 2: over WORDS the body reads from its input SMEM windows
    (`v5`, `v15`, `v25`, `v35`, `v45`, `v55`, `v65`, `v75`), so no function of the point — a case variable: a hypothesis of each run, a `by_cases`
    of the obligation and an `if` of `outsAt`, stated over the argument blocks' words there. -/
abbrev cond0_2 (i : grid0.Coords) (v5 : BitVec 32) (v15 : BitVec 32) (v25 : BitVec 32) (v35 : BitVec 32) (v45 : BitVec 32) (v55 : BitVec 32) (v65 : BitVec 32) (v75 : BitVec 32) : Prop := (Scalar.cmpi .ne (Scalar.extui (Scalar.xori (Scalar.andi (Scalar.andi (Scalar.andi (Scalar.andi (Scalar.andi (Scalar.andi (Scalar.andi (Scalar.andi (Scalar.andi (Scalar.cmpi .eq (Scalar.andi v5 8388607#32) 0#32) (Scalar.cmpi .sgt v5 0#32)) (Scalar.cmpi .sle (Scalar.absi (Scalar.subi (Scalar.shrsi v5 23#32) 127#32)) 40#32)) (Scalar.andi (Scalar.andi (Scalar.cmpi .eq (Scalar.andi v15 8388607#32) 0#32) (Scalar.cmpi .sgt v15 0#32)) (Scalar.cmpi .sle (Scalar.absi (Scalar.subi (Scalar.shrsi v15 23#32) 127#32)) 40#32))) (Scalar.andi (Scalar.andi (Scalar.cmpi .eq (Scalar.andi v25 8388607#32) 0#32) (Scalar.cmpi .sgt v25 0#32)) (Scalar.cmpi .sle (Scalar.absi (Scalar.subi (Scalar.shrsi v25 23#32) 127#32)) 40#32))) (Scalar.andi (Scalar.andi (Scalar.cmpi .eq (Scalar.andi v35 8388607#32) 0#32) (Scalar.cmpi .sgt v35 0#32)) (Scalar.cmpi .sle (Scalar.absi (Scalar.subi (Scalar.shrsi v35 23#32) 127#32)) 40#32))) (Scalar.andi (Scalar.andi (Scalar.cmpi .eq (Scalar.andi v45 8388607#32) 0#32) (Scalar.cmpi .sgt v45 0#32)) (Scalar.cmpi .sle (Scalar.absi (Scalar.subi (Scalar.shrsi v45 23#32) 127#32)) 40#32))) (Scalar.andi (Scalar.andi (Scalar.cmpi .eq (Scalar.andi v55 8388607#32) 0#32) (Scalar.cmpi .sgt v55 0#32)) (Scalar.cmpi .sle (Scalar.absi (Scalar.subi (Scalar.shrsi v55 23#32) 127#32)) 40#32))) (Scalar.andi (Scalar.andi (Scalar.cmpi .eq (Scalar.andi v65 8388607#32) 0#32) (Scalar.cmpi .sgt v65 0#32)) (Scalar.cmpi .sle (Scalar.absi (Scalar.subi (Scalar.shrsi v65 23#32) 127#32)) 40#32))) (Scalar.andi (Scalar.andi (Scalar.cmpi .eq (Scalar.andi v75 8388607#32) 0#32) (Scalar.cmpi .sgt v75 0#32)) (Scalar.cmpi .sle (Scalar.absi (Scalar.subi (Scalar.shrsi v75 23#32) 127#32)) 40#32))) 1#1)) 0#32) = 1#1

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x32768 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x32768 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x64 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x256 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x256 .fp8e4m3 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S32x32768 .f32 := Memref.whole cc0_scratch0
abbrev scM0_1 : Memref sig .tc .vmem S64x256 .f32 := Memref.whole cc0_scratch1
abbrev scM0_2 : Memref sig .tc .vmem S64x256 .f32 := Memref.whole cc0_scratch2
abbrev scM0_3 : Memref sig .tc .vmem S32x1 .f32 := Memref.whole cc0_scratch3
abbrev scM0_4 : Memref sig .tc .vmem S32x1 .f32 := Memref.whole cc0_scratch4
abbrev scM0_5 : Memref sig .tc .vmem S32x256 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.RunB.lean ====
/- One run of the kernel's body: the first grid point, foldable scales. -/
module

public import proofs.«01_k».proof.Proof.Conditions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at the first grid point, when every scale is a power of two that can be folded into the queries. From the inputs' blocks it leaves the inputs as they were, the attention result, both arrays of codes and both arrays of dequantised rows stored,
    and its other buffers at something. What it stores in a buffer is the list of pieces that this definition carries.  -/
def runB (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : ¬cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (s0 : Vec F S32x32768 .f32) :
    Σ' (L9 : List (View.Piece (Elt F) S1x32x64 .bf16)), Σ' (L10 : List (View.Piece (Elt F) S64x256 .fp8e4m3)), Σ' (L11 : List (View.Piece (Elt F) S64x256 .fp8e4m3)), Σ' (LS1 : List (View.Piece (Elt F) S64x256 .f32)), { LS2 : List (View.Piece (Elt F) S64x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s0 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
    refine ⟨?_, ?_, ?_, ?_, ?_, fun E K => ?run⟩
    case run =>
      simp only [cc0_gqa_decode_fp8_eq_skeleton]; unfold cc0_gqa_decode_fp8_skel
      simp only [k0_part7_eq_skeleton, k0_part1_eq_skeleton, k0_part2_eq_skeleton, k0_part8_eq_skeleton, k0_part9_eq_skeleton, k0_part3_eq_skeleton, k0_part10_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0
      sl_exec (disch := first | sl_exact hc0 | sl_exact hc1 | sl_exact hc2)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; iexact H9
      isplitl [H10]
      · iexists _; iexact H10
      isplitl [H11]
      · iexists _; iexact H11
      isplitl [HS0]
      · iexists _, _; isplitr; swap; · iexact HS0
        ipureintro; rfl
      isplitl [HS1]
      · iexists _; iexact HS1
      isplitl [HS2]
      · iexists _; iexact HS2
      isplitl [HS3]
      · iexists _, _; isplitr; swap; · iexact HS3
        ipureintro; rfl
      isplitl [HS4]
      · iexists _, _; isplitr; swap; · iexact HS4
        ipureintro; rfl
      iexists _, _; isplitr; swap; · iexact HS5
      ipureintro; rfl

end Cert.KernelIdeal.Gen

end
-- ==== Proof.Trips.lean ====
/- What one trip of each loop yields and stores, as functions of what it reads. -/
module

public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A trip of the score loop with folded scales keeps the running maximum of the scores, -/
theorem tripR1_eq (𝒱 : Variants) (c : Dev nD) (bd : Option 𝒱.V) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (v4 : FVec F S32x256 .bf16) (v148 : Elt F .i32) (v151 : Elt F .i32) (v154 : Elt F .i32) (v157 : Elt F .i32) (X_arg8 : BufTy.Contents (Elt F) arg8.view.ty) (k : Fin k0_t1_loop.trips) (acc : FVec F S32x128 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4 v148 v151 v154 v157 X_arg8 k acc = k0_pay10 v4 v148 v151 v154 v157 acc (arg8.view.readAt (Elt F) (Rect.unit (s := S1x256x32768) (k0_off1 k) S1x256x2048.size (k0_off1_inb k)).toLoadRect X_arg8) := by
  unfold tripR_k0_t1 trip_k0_t1; rfl

/-- and stores the scores of its chunk. -/
theorem tripL1_eq (𝒱 : Variants) (c : Dev nD) (bd : Option 𝒱.V) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (v4 : FVec F S32x256 .bf16) (v148 : Elt F .i32) (v151 : Elt F .i32) (v154 : Elt F .i32) (v157 : Elt F .i32) (X_arg8 : BufTy.Contents (Elt F) arg8.view.ty) (k : Fin k0_t1_loop.trips) (acc : FVec F S32x128 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4 v148 v151 v154 v157 X_arg8 k acc = [⟨Rect.unit (s := S32x32768) (k0_off2 k) S32x2048.size (k0_off2_inb k), k0_pay9 v4 v148 v151 v154 v157 (arg8.view.readAt (Elt F) (Rect.unit (s := S1x256x32768) (k0_off1 k) S1x256x2048.size (k0_off1_inb k)).toLoadRect X_arg8)⟩] := by
  unfold tripL_k0_t1 trip_k0_t1; rfl

/-- A trip of the weighted sum with folded scales adds its chunk's weights and weighted values. -/
theorem tripR2_eq (𝒱 : Variants) (c : Dev nD) (bd : Option 𝒱.V) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (v4 : FVec F S32x256 .bf16) (v165 : FVec F S32x128 .f32) (X_arg9 : BufTy.Contents (Elt F) arg9.view.ty) (X_arg13 : BufTy.Contents (Elt F) arg13.view.ty) (k : Fin k0_t2_loop.trips) (acc : FVec F S32x128 .f32 × FVec F S32x256 .f32) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4 v165 X_arg9 X_arg13 k acc = (k0_pay16 v165 acc.1 (arg13.view.readAt (Elt F) (Rect.unit (s := S32x32768) (k0_off4 k) S32x2048.size (k0_off4_inb k)).toLoadRect X_arg13), k0_pay15 v165 acc.2 (arg9.view.readAt (Elt F) (Rect.unit (s := S1x256x32768) (k0_off3 k) S1x256x2048.size (k0_off3_inb k)).toLoadRect X_arg9) (arg13.view.readAt (Elt F) (Rect.unit (s := S32x32768) (k0_off4 k) S32x2048.size (k0_off4_inb k)).toLoadRect X_arg13)) := by
  unfold tripR_k0_t2 trip_k0_t2; rfl

/-- A trip of the score loop with the scales in the codes keeps the running maximum of the scores, -/
theorem tripR3_eq (𝒱 : Variants) (c : Dev nD) (bd : Option 𝒱.V) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (v4 : FVec F S32x256 .bf16) (v149 : Elt F .i32) (v152 : Elt F .i32) (v155 : Elt F .i32) (v158 : Elt F .i32) (X_arg8 : BufTy.Contents (Elt F) arg8.view.ty) (k : Fin k0_t3_loop.trips) (acc : FVec F S32x128 .f32) :
    tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4 v149 v152 v155 v158 X_arg8 k acc = k0_pay32 acc (k0_pay20 v4 (k0_pay28 (F := F)) (k0_pay29 v149 v152 v155 v158) (arg8.view.readAt (Elt F) (Rect.unit (s := S1x256x32768) (k0_off5 k) S1x256x2048.size (k0_off5_inb k)).toLoadRect X_arg8)) (k0_pay22 v4 (k0_pay28 (F := F)) (k0_pay29 v149 v152 v155 v158) (arg8.view.readAt (Elt F) (Rect.unit (s := S1x256x32768) (k0_off5 k) S1x256x2048.size (k0_off5_inb k)).toLoadRect X_arg8)) (k0_pay23 v4 (k0_pay28 (F := F)) (k0_pay29 v149 v152 v155 v158) (arg8.view.readAt (Elt F) (Rect.unit (s := S1x256x32768) (k0_off5 k) S1x256x2048.size (k0_off5_inb k)).toLoadRect X_arg8)) := by
  unfold tripR_k0_t3 trip_k0_t3; rfl

/-- and stores the scores of its chunk. -/
theorem tripL3_eq (𝒱 : Variants) (c : Dev nD) (bd : Option 𝒱.V) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (v4 : FVec F S32x256 .bf16) (v149 : Elt F .i32) (v152 : Elt F .i32) (v155 : Elt F .i32) (v158 : Elt F .i32) (X_arg8 : BufTy.Contents (Elt F) arg8.view.ty) (k : Fin k0_t3_loop.trips) (acc : FVec F S32x128 .f32) :
    tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4 v149 v152 v155 v158 X_arg8 k acc = [⟨Rect.unit (s := S32x32768) (k0_off6 k) S32x2048.size (k0_off6_inb k), k0_pay21 v4 (k0_pay28 (F := F)) (k0_pay29 v149 v152 v155 v158) (arg8.view.readAt (Elt F) (Rect.unit (s := S1x256x32768) (k0_off5 k) S1x256x2048.size (k0_off5_inb k)).toLoadRect X_arg8)⟩] := by
  unfold tripL_k0_t3 trip_k0_t3; rfl

/-- A trip of the weighted sum with the scales in the codes adds its chunk's weights and weighted values. -/
theorem tripR4_eq (𝒱 : Variants) (c : Dev nD) (bd : Option 𝒱.V) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (v4 : FVec F S32x256 .bf16) (v163 : Elt F .i32) (v166 : Elt F .i32) (v169 : Elt F .i32) (v172 : Elt F .i32) (v179 : FVec F S32x128 .f32) (X_arg9 : BufTy.Contents (Elt F) arg9.view.ty) (X_arg13 : BufTy.Contents (Elt F) arg13.view.ty) (k : Fin k0_t4_loop.trips) (acc : FVec F S32x128 .f32 × FVec F S32x256 .f32) :
    tripR_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v4 v163 v166 v169 v172 v179 X_arg9 X_arg13 k acc = (k0_pay36 acc.1 (k0_pay24 (k0_pay33 v179) (arg13.view.readAt (Elt F) (Rect.unit (s := S32x32768) (k0_off8 k) S32x2048.size (k0_off8_inb k)).toLoadRect X_arg13)) (k0_pay26 (k0_pay33 v179) (arg13.view.readAt (Elt F) (Rect.unit (s := S32x32768) (k0_off8 k) S32x2048.size (k0_off8_inb k)).toLoadRect X_arg13)) (k0_pay27 (k0_pay33 v179) (arg13.view.readAt (Elt F) (Rect.unit (s := S32x32768) (k0_off8 k) S32x2048.size (k0_off8_inb k)).toLoadRect X_arg13)),
      k0_pay25 (k0_pay30 v163 v166 v169 v172) (k0_pay33 v179) acc.2 (arg9.view.readAt (Elt F) (Rect.unit (s := S1x256x32768) (k0_off7 k) S1x256x2048.size (k0_off7_inb k)).toLoadRect X_arg9) (arg13.view.readAt (Elt F) (Rect.unit (s := S32x32768) (k0_off8 k) S32x2048.size (k0_off8_inb k)).toLoadRect X_arg13)) := by
  unfold tripR_k0_t4 trip_k0_t4; rfl

end Cert.KernelIdeal.Gen

end
-- ==== Proof.Attend.lean ====
/- Softmax attention of one query over a cache and one new row, and its merged form, over the extended reals. -/
module

public import Idealize.ShloMosaic.Lib.Pointwise

@[expose] public section

noncomputable section

namespace Cert.Attend

open Idealize.ShloMosaic

/-- The softmax-weighted mean of the cached values `v` and the new value `vn`, with scores `s` and `sn`. -/
def attend (s v : Fin 32768 → EReal) (sn vn : EReal) : EReal :=
  Ideal.div
    ((∑ j, Ideal.exp (s j - max (Finset.univ.fold max ⊥ s) sn) * v j) + Ideal.exp (sn - max (Finset.univ.fold max ⊥ s) sn) * vn)
    ((∑ j, Ideal.exp (s j - max (Finset.univ.fold max ⊥ s) sn)) + Ideal.exp (sn - max (Finset.univ.fold max ⊥ s) sn))

/-- The exponential of a difference `a - b` with `a ≤ b` is a real number between zero and one. -/
theorem exp_sub_real {a b : EReal} (h : a ≤ b) : ∃ r : ℝ, 0 ≤ r ∧ Ideal.exp (a - b) = r := by
  induction a using EReal.rec <;> induction b using EReal.rec
  · exact ⟨0, le_rfl, by simp⟩
  · exact ⟨0, le_rfl, by simp⟩
  · exact ⟨0, le_rfl, by simp⟩
  · simp at h
  · rename_i a b; exact ⟨Real.exp (a - b), (Real.exp_pos _).le, by rw [← EReal.coe_sub, Ideal.exp_coe]⟩
  · exact ⟨0, le_rfl, by simp⟩
  · simp at h
  · simp at h
  · exact ⟨0, le_rfl, by simp⟩

/-- Moving the reference point of an exponential from `b` up to `c` multiplies it by the exponential of `b - c`. -/
theorem exp_sub_mul_exp_sub {a b c : EReal} (h : a ≤ b) (h' : b ≤ c) : Ideal.exp (a - b) * Ideal.exp (b - c) = Ideal.exp (a - c) := by
  induction a using EReal.rec <;> induction b using EReal.rec <;> induction c using EReal.rec <;> simp_all
  rename_i a b c
  rw [← EReal.coe_sub, ← EReal.coe_sub, ← EReal.coe_sub, Ideal.exp_coe, Ideal.exp_coe, Ideal.exp_coe, ← EReal.coe_mul, ← Real.exp_add]
  congr 2; ring

/-- A nonnegative real factor goes into a sum. -/
theorem sum_mul_real {ι : Type*} (s : Finset ι) (f : ι → EReal) {r : ℝ} (hr : 0 ≤ r) : (∑ i ∈ s, f i) * (r : EReal) = ∑ i ∈ s, f i * r := by
  classical
  induction s using Finset.induction_on with
  | empty => simp
  | insert a s ha ih =>
    rw [Finset.sum_insert ha, Finset.sum_insert ha, ← ih, EReal.right_distrib_of_nonneg_of_ne_top (by exact_mod_cast hr) (EReal.coe_ne_top r)]

/-- Attention over the cache alone, merged with the new row afterwards: rescaling both sums to the common maximum gives the
    softmax over all the rows. -/
theorem attend_merge (s v : Fin 32768 → EReal) (sn vn m l acc : EReal) (hm : m = Finset.univ.fold max ⊥ s)
    (hl : l = ∑ j, Ideal.exp (s j - m)) (hacc : acc = ∑ j, Ideal.exp (s j - m) * v j) :
    Ideal.div (acc * Ideal.exp (m - max m sn) + Ideal.exp (sn - max m sn) * vn) (l * Ideal.exp (m - max m sn) + Ideal.exp (sn - max m sn))
      = attend s v sn vn := by
  have hs : ∀ j, s j ≤ m := fun j => by
    rw [hm]; exact ((Finset.fold_max_le _).1 le_rfl).2 j (Finset.mem_univ j)
  obtain ⟨r, hr, hrα⟩ := exp_sub_real (le_max_left m sn)
  have h1 : l * Ideal.exp (m - max m sn) = ∑ j, Ideal.exp (s j - max m sn) := by
    rw [hl, hrα, sum_mul_real _ _ hr]
    exact Finset.sum_congr rfl fun j _ => by rw [← hrα, exp_sub_mul_exp_sub (hs j) (le_max_left _ _)]
  have h2 : acc * Ideal.exp (m - max m sn) = ∑ j, Ideal.exp (s j - max m sn) * v j := by
    rw [hacc, hrα, sum_mul_real _ _ hr]
    exact Finset.sum_congr rfl fun j _ => by rw [mul_right_comm, ← hrα, exp_sub_mul_exp_sub (hs j) (le_max_left _ _)]
  rw [h1, h2, hm]; rfl

/-- The greatest of a family, from its upper bounds. -/
theorem eq_fold_max (s : Fin 32768 → EReal) (m : EReal) (h : ∀ x, m ≤ x ↔ ∀ j, s j ≤ x) : m = Finset.univ.fold max ⊥ s := by
  refine eq_of_forall_ge_iff fun x => ?_
  rw [h x, Finset.fold_max_le]; simp

/-- The cached rows are sixteen chunks of 2048 rows, in order. -/
def row (k : ℕ) (hk : k < 16) (x : Fin 2048) : Fin 32768 := ⟨2048 * k + x, by omega⟩

/-- A sum over the chunk of trip `k` is a sum over its sixteen groups of 128 lanes. -/
theorem sum_lanes (f : Fin 2048 → EReal) : ∑ l : Fin 128, ∑ g : Fin 16, f ⟨128 * g + l, by omega⟩ = ∑ x, f x := by
  rw [Finset.sum_comm, ← Fintype.sum_prod_type' (f := fun (g : Fin 16) (l : Fin 128) => f ⟨128 * g + l, by omega⟩)]
  exact Fintype.sum_equiv (finProdFinEquiv.trans (finCongr (by decide))) _ _ fun ⟨g, l⟩ => congrArg f (Fin.ext (by simp [finProdFinEquiv]; omega))

/-- A sum over all the cached rows, chunk by chunk. -/
theorem sum_chunks (f : Fin 32768 → EReal) : ∑ k : Fin 16, ∑ x : Fin 2048, f (row k k.2 x) = ∑ j, f j := by
  rw [← Fintype.sum_prod_type' (f := fun (k : Fin 16) (x : Fin 2048) => f (row k k.2 x))]
  exact Fintype.sum_equiv (finProdFinEquiv.trans (finCongr (by decide))) _ _ fun ⟨g, l⟩ => congrArg f (Fin.ext (by simp [finProdFinEquiv, row]; omega))

/-- A statement about every cached row, chunk by chunk and lane by lane. -/
theorem forall_rows (p : Fin 32768 → Prop) : (∀ l : Fin 128, ∀ k : Fin 16, ∀ g : Fin 16, p (row k k.2 ⟨128 * g + l, by omega⟩)) ↔ ∀ j, p j := by
  refine ⟨fun h j => ?_, fun h l k g => h _⟩
  have := h ⟨j % 128, by omega⟩ ⟨j / 2048, by omega⟩ ⟨j / 128 % 16, by omega⟩
  rwa [show row (j / 2048) _ _ = j from Fin.ext (by simp [row]; omega)] at this

/-- A running maximum, lane by lane and chunk by chunk, ends with the greatest of all the rows. -/
theorem scan_max (st : ℕ → Fin 128 → EReal) (s : Fin 32768 → EReal) (h0 : ∀ l, st 0 l = ⊥)
    (hs : ∀ k (hk : k < 16) l y, st (k + 1) l ≤ y ↔ st k l ≤ y ∧ ∀ g : Fin 16, s (row k hk ⟨128 * g + l, by omega⟩) ≤ y) :
    (Finset.univ.fold max ⊥ fun l => st 16 l) = Finset.univ.fold max ⊥ s := by
  have h : ∀ n (hn : n ≤ 16) l y, st n l ≤ y ↔ ∀ k (hk : k < n) (g : Fin 16), s (row k (by omega) ⟨128 * g + l, by omega⟩) ≤ y := by
    intro n
    induction n with
    | zero => intro _ l y; simp [h0]
    | succ n ih =>
      intro hn l y
      rw [hs n (by omega), ih (by omega)]
      constructor
      · rintro ⟨h1, h2⟩ k hk g
        rcases Nat.lt_succ_iff_lt_or_eq.1 hk with hk | rfl
        · exact h1 k hk g
        · exact h2 g
      · exact fun h => ⟨fun k hk g => h k (by omega) g, fun g => h n (by omega) g⟩
  refine eq_fold_max _ _ fun y => ?_
  rw [Finset.fold_max_le, ← forall_rows]
  simp only [bot_le, true_and, Finset.mem_univ, true_implies]
  refine forall_congr' fun l => ?_
  rw [h 16 le_rfl]
  exact ⟨fun h k g => h k k.2 g, fun h k hk g => h ⟨k, hk⟩ g⟩

/-- A running sum, chunk by chunk, ends with the sum over all the rows. -/
theorem scan_sum (st : ℕ → EReal) (p : Fin 32768 → EReal) (h0 : st 0 = 0)
    (hs : ∀ k (hk : k < 16), st (k + 1) = st k + ∑ x, p (row k hk x)) : st 16 = ∑ j, p j := by
  have h : ∀ n (hn : n ≤ 16), st n = ∑ k : Fin n, ∑ x, p (row k (by omega) x) := by
    intro n
    induction n with
    | zero => intro _; simp [h0]
    | succ n ih => intro hn; rw [hs n (by omega), ih (by omega)]; exact (Fin.sum_univ_castSucc (M := EReal) fun k : Fin (n + 1) => ∑ x, p (row k (by omega) x)).symm
  rw [h 16 le_rfl, ← sum_chunks]

/-- A running sum, lane by lane and chunk by chunk, ends with lanes that add up to the sum over all the rows. -/
theorem scan_sum_lanes (st : ℕ → Fin 128 → EReal) (p : Fin 32768 → EReal) (h0 : ∀ l, st 0 l = 0)
    (hs : ∀ k (hk : k < 16) l, st (k + 1) l = st k l + ∑ g : Fin 16, p (row k hk ⟨128 * g + l, by omega⟩)) :
    ∑ l, st 16 l = ∑ j, p j := by
  refine scan_sum (fun k => ∑ l, st k l) p (by simp [h0]) fun k hk => ?_
  rw [← sum_lanes fun x => p (row k hk x), ← Finset.sum_add_distrib]
  exact Finset.sum_congr rfl fun l _ => hs k hk l

end Cert.Attend

end
-- ==== Proof.Payloads.lean ====
/- What each value of the kernel's body is at an index, over the extended reals. -/
module

public import proofs.«01_k».proof.Proof.Gen.KernelIdeal.Skeleton
public import Idealize.ShloMosaic.Lib.Pointwise

@[expose] public section

set_option maxRecDepth 16384

noncomputable section

namespace Cert.KernelIdeal.Gen

open Idealize.ShloMosaic Idealize.ShloMosaic.TcCoe Idealize.ShloMosaic.Tactic

/-- The scale of the head that row `r` belongs to, where a head has `n` rows. -/
def perHead (n : ℕ) (w0 w1 w2 w3 : BitVec 32) (r : ℕ) : EReal :=
  if _h : r < n then Ideal.ofBits .f32 w0 else if _h : r - n < n then Ideal.ofBits .f32 w1
  else if _h : r - n - n < n then Ideal.ofBits .f32 w2 else Ideal.ofBits .f32 w3

/-- Lane `l` of group `g` of a chunk. -/
def lane (g : Fin 16) (l : Fin 128) : Fin 2048 := ⟨128 * g + l, by omega⟩

section Shared

/-- The greatest score over the lanes. -/
theorem pay11_at (v : FVec Ideal S32x128 .f32) (r : Fin 32) :
    k0_pay11 (F := Ideal) v (ix2 r 0) = Finset.univ.fold max (Ideal.ofBits .f32 0xFF800000#32) fun l => v (ix2 r l) := by
  pointwise [k0_pay11]

/-- The same, where the scales are in the codes. -/
theorem pay33_at (v : FVec Ideal S32x128 .f32) (r : Fin 32) :
    k0_pay33 (F := Ideal) v (ix2 r 0) = Finset.univ.fold max (Ideal.ofBits .f32 0xFF800000#32) fun l => v (ix2 r l) := by
  pointwise [k0_pay33]

/-- The weights: the exponentials of the scores less their maximum. -/
theorem pay14_at (v : FVec Ideal S32x128 .f32) (s : FVec Ideal S32x2048 .f32) (r : Fin 32) (x : Fin 2048) :
    k0_pay14 (F := Ideal) v s (ix2 r x) = Ideal.exp (s (ix2 r x) - k0_pay11 (F := Ideal) v (ix2 r 0)) := by
  pointwise [k0_pay14]

/-- The same, where the scales are in the codes. -/
theorem pay24_at (m : FVec Ideal S32x1 .f32) (s : FVec Ideal S32x2048 .f32) (r : Fin 32) (x : Fin 2048) :
    k0_pay24 (F := Ideal) m s (ix2 r x) = Ideal.exp (s (ix2 r x) - m (ix2 r 0)) := by
  pointwise [k0_pay24]

end Shared

section Folded

/-- A score of a chunk: the product of a query with the codes, times the scale of the head and the softmax factor. -/
theorem pay9_at (q : FVec Ideal S32x256 .bf16) (w0 w1 w2 w3 : BitVec 32) (k : FVec Ideal S1x256x2048 .fp8e4m3) (r : Fin 32) (x : Fin 2048) :
    k0_pay9 (F := Ideal) q w0 w1 w2 w3 k (ix2 r x)
      = (∑ c, q (ix2 r c) * k (ix3 0 c x)) * (perHead 8 w0 w1 w2 w3 r * Ideal.ofBits .f32 0x3E000000#32) := by
  pointwise [k0_pay9, k0_pay8, perHead]

/-- The running maximum after a chunk is bounded by what bounds the one before and every score of the chunk in the lane. -/
theorem pay10_le_iff (q : FVec Ideal S32x256 .bf16) (w0 w1 w2 w3 : BitVec 32) (a : FVec Ideal S32x128 .f32) (k : FVec Ideal S1x256x2048 .fp8e4m3)
    (r : Fin 32) (l : Fin 128) (y : EReal) :
    k0_pay10 (F := Ideal) q w0 w1 w2 w3 a k (ix2 r l) ≤ y
      ↔ a (ix2 r l) ≤ y ∧ ∀ g, k0_pay9 (F := Ideal) q w0 w1 w2 w3 k (ix2 r (lane g l)) ≤ y := by
  pointwise [k0_pay10, k0_pay9, lane]
  simp [Fin.forall_fin_succ, and_assoc]

/-- The weighted sum after a chunk. -/
theorem pay15_at (m : FVec Ideal S32x128 .f32) (a : FVec Ideal S32x256 .f32) (v : FVec Ideal S1x256x2048 .fp8e4m3) (s : FVec Ideal S32x2048 .f32)
    (r : Fin 32) (c : Fin 256) :
    k0_pay15 (F := Ideal) m a v s (ix2 r c) = a (ix2 r c) + ∑ x, k0_pay14 (F := Ideal) m s (ix2 r x) * v (ix3 0 c x) := by
  pointwise [k0_pay15]

/-- The sum of the weights in a lane after a chunk. -/
theorem pay16_at (m : FVec Ideal S32x128 .f32) (a : FVec Ideal S32x128 .f32) (s : FVec Ideal S32x2048 .f32) (r : Fin 32) (l : Fin 128) :
    k0_pay16 (F := Ideal) m a s (ix2 r l) = a (ix2 r l) + ∑ g, k0_pay14 (F := Ideal) m s (ix2 r (lane g l)) := by
  pointwise [k0_pay16, lane]
  simp [Fin.sum_univ_succ, add_assoc]

end Folded

section Unfolded

/-- The codes of a chunk, each group of 128 lanes multiplied by the scales. -/
def widen {F : FTy → Type} [FloatOps F] (v162 : FVec F S256x128 .bf16) (v199 : Vec F S1x256x2048 .fp8e4m3) : FVec F S256x2048 .bf16 :=
  have v200 : FVec F S256x2048 .fp8e4m3 := shapeCast S256x2048 v199 shapeCasts_S1x256x2048_S256x2048
  have v201 : FVec F S256x2048 .bf16 := extf .bf16 v200 bitsLt_fp8e4m3_bf16
  have v202 : FVec F S256x128 .bf16 := extractStridedSlice S256x128 ![0, 0] v201 slices_S256x2048_o0_0_S256x128
  have v203 : FVec F S256x128 .bf16 := mulf v202 v162
  have v204 : FVec F S256x128 .bf16 := extractStridedSlice S256x128 ![0, 128] v201 slices_S256x2048_o0_128_S256x128
  have v205 : FVec F S256x128 .bf16 := mulf v204 v162
  have v206 : FVec F S256x128 .bf16 := extractStridedSlice S256x128 ![0, 256] v201 slices_S256x2048_o0_256_S256x128
  have v207 : FVec F S256x128 .bf16 := mulf v206 v162
  have v208 : FVec F S256x128 .bf16 := extractStridedSlice S256x128 ![0, 384] v201 slices_S256x2048_o0_384_S256x128
  have v209 : FVec F S256x128 .bf16 := mulf v208 v162
  have v210 : FVec F S256x128 .bf16 := extractStridedSlice S256x128 ![0, 512] v201 slices_S256x2048_o0_512_S256x128
  have v211 : FVec F S256x128 .bf16 := mulf v210 v162
  have v212 : FVec F S256x128 .bf16 := extractStridedSlice S256x128 ![0, 640] v201 slices_S256x2048_o0_640_S256x128
  have v213 : FVec F S256x128 .bf16 := mulf v212 v162
  have v214 : FVec F S256x128 .bf16 := extractStridedSlice S256x128 ![0, 768] v201 slices_S256x2048_o0_768_S256x128
  have v215 : FVec F S256x128 .bf16 := mulf v214 v162
  have v216 : FVec F S256x128 .bf16 := extractStridedSlice S256x128 ![0, 896] v201 slices_S256x2048_o0_896_S256x128
  have v217 : FVec F S256x128 .bf16 := mulf v216 v162
  have v218 : FVec F S256x128 .bf16 := extractStridedSlice S256x128 ![0, 1024] v201 slices_S256x2048_o0_1024_S256x128
  have v219 : FVec F S256x128 .bf16 := mulf v218 v162
  have v220 : FVec F S256x128 .bf16 := extractStridedSlice S256x128 ![0, 1152] v201 slices_S256x2048_o0_1152_S256x128
  have v221 : FVec F S256x128 .bf16 := mulf v220 v162
  have v222 : FVec F S256x128 .bf16 := extractStridedSlice S256x128 ![0, 1280] v201 slices_S256x2048_o0_1280_S256x128
  have v223 : FVec F S256x128 .bf16 := mulf v222 v162
  have v224 : FVec F S256x128 .bf16 := extractStridedSlice S256x128 ![0, 1408] v201 slices_S256x2048_o0_1408_S256x128
  have v225 : FVec F S256x128 .bf16 := mulf v224 v162
  have v226 : FVec F S256x128 .bf16 := extractStridedSlice S256x128 ![0, 1536] v201 slices_S256x2048_o0_1536_S256x128
  have v227 : FVec F S256x128 .bf16 := mulf v226 v162
  have v228 : FVec F S256x128 .bf16 := extractStridedSlice S256x128 ![0, 1664] v201 slices_S256x2048_o0_1664_S256x128
  have v229 : FVec F S256x128 .bf16 := mulf v228 v162
  have v230 : FVec F S256x128 .bf16 := extractStridedSlice S256x128 ![0, 1792] v201 slices_S256x2048_o0_1792_S256x128
  have v231 : FVec F S256x128 .bf16 := mulf v230 v162
  have v232 : FVec F S256x128 .bf16 := extractStridedSlice S256x128 ![0, 1920] v201 slices_S256x2048_o0_1920_S256x128
  have v233 : FVec F S256x128 .bf16 := mulf v232 v162
  have v234 : FVec F S256x2048 .bf16 := concatenate S256x2048 1 [⟨S256x128, v203⟩, ⟨S256x128, v205⟩, ⟨S256x128, v207⟩, ⟨S256x128, v209⟩, ⟨S256x128, v211⟩, ⟨S256x128, v213⟩, ⟨S256x128, v215⟩, ⟨S256x128, v217⟩, ⟨S256x128, v219⟩, ⟨S256x128, v221⟩, ⟨S256x128, v223⟩, ⟨S256x128, v225⟩, ⟨S256x128, v227⟩, ⟨S256x128, v229⟩, ⟨S256x128, v231⟩, ⟨S256x128, v233⟩] concatenates_S256x128_S256x128_S256x128_S256x128_S256x128_S256x128_S256x128_S256x128_S256x128_S256x128_S256x128_S256x128_S256x128_S256x128_S256x128_S256x128_S256x2048_d1
  v234

theorem slices_group (g : Fin 16) : S256x2048.Slices ![0, 128 * (g : ℕ)] S256x128 := by revert g; decide

/-- Group `g` of the codes, multiplied by the scales. -/
def group {F : FTy → Type} [FloatOps F] (v162 : FVec F S256x128 .bf16) (v199 : Vec F S1x256x2048 .fp8e4m3) (g : Fin 16) : FVec F S256x128 .bf16 :=
  mulf (extractStridedSlice S256x128 ![0, 128 * (g : ℕ)] (extf .bf16 (shapeCast S256x2048 v199 shapeCasts_S1x256x2048_S256x2048 : FVec F S256x2048 .fp8e4m3) bitsLt_fp8e4m3_bf16 : FVec F S256x2048 .bf16) (slices_group g)) v162

theorem widen_eq {F : FTy → Type} [FloatOps F] (w : FVec F S256x128 .bf16) (k : Vec F S1x256x2048 .fp8e4m3) :
    widen w k = concatenate S256x2048 1 (List.ofFn fun g : Fin 16 => (⟨S256x128, group w k g⟩ : (s : Shape) × (s.Idx → F .bf16)))
      concatenates_S256x128_S256x128_S256x128_S256x128_S256x128_S256x128_S256x128_S256x128_S256x128_S256x128_S256x128_S256x128_S256x128_S256x128_S256x128_S256x128_S256x2048_d1 := rfl

/-- A scaled code is the code times its scale. -/
theorem widen_at (w : FVec Ideal S256x128 .bf16) (k : FVec Ideal S1x256x2048 .fp8e4m3) (c : Fin 256) (g : Fin 16) (l : Fin 128) :
    widen (F := Ideal) w k (ix2 c (lane g l)) = k (ix3 0 c (lane g l)) * w (ix2 c l) := by
  rw [widen_eq]
  refine (concatenate_ofFn_apply (t := S256x2048) (s₁ := S256x128) 1 (group w k) _ rfl 128 rfl (ix2 c (lane g l)) g ?_ (ix2 c l) ?_ ?_).trans ?_
  · show (128 * (g : ℕ) + l) / 128 = g
    omega
  · show (l : ℕ) = (128 * (g : ℕ) + l) % 128
    omega
  · intro b hb
    match b with
    | ⟨0, _⟩ => rfl
    | ⟨1, _⟩ => exact absurd rfl hb
  · unfold group
    pointwise [lane]

/-- The scale of a channel, in every lane. -/
theorem pay29_at (w0 w1 w2 w3 : BitVec 32) (c : Fin 256) (l : Fin 128) :
    k0_pay29 (F := Ideal) w0 w1 w2 w3 (ix2 c l) = perHead 64 w0 w1 w2 w3 c := by
  pointwise [k0_pay29, perHead]

/-- The scale of a channel of the values, in every lane. -/
theorem pay30_at (w0 w1 w2 w3 : BitVec 32) (c : Fin 256) (l : Fin 128) :
    k0_pay30 (F := Ideal) w0 w1 w2 w3 (ix2 c l) = perHead 64 w0 w1 w2 w3 c := by
  pointwise [k0_pay30, perHead]

/-- Every row of a chunk is a lane of a group. -/
theorem exists_lane (x : Fin 2048) : ∃ g l, x = lane g l :=
  ⟨⟨x / 128, by omega⟩, ⟨x % 128, by omega⟩, Fin.ext (by simp [lane]; omega)⟩

/-- A score of a chunk: the product of a query with the codes times their head's scale, times the softmax factor. -/
theorem pay20_at (q : FVec Ideal S32x256 .bf16) (w0 w1 w2 w3 : BitVec 32) (k : FVec Ideal S1x256x2048 .fp8e4m3) (r : Fin 32) (x : Fin 2048) :
    k0_pay20 (F := Ideal) q k0_pay28 (k0_pay29 w0 w1 w2 w3) k (ix2 r x)
      = (∑ c, q (ix2 r c) * (k (ix3 0 c x) * perHead 64 w0 w1 w2 w3 c)) * Ideal.ofBits .f32 0x3E000000#32 := by
  have h : k0_pay20 (F := Ideal) q k0_pay28 (k0_pay29 w0 w1 w2 w3) k
      = mulf (matmul dot_S32x256_S256x2048_S32x2048_1_0_0_1_n_n none q (widen (k0_pay29 w0 w1 w2 w3) k) (constant S32x2048 .f32 0x00000000#32)) (broadcastTo S32x2048 (k0_pay28 (F := Ideal)) broadcasts_S32x1_S32x2048) := rfl
  have h' : ∀ c, widen (F := Ideal) (k0_pay29 w0 w1 w2 w3) k (ix2 c x) = k (ix3 0 c x) * perHead 64 w0 w1 w2 w3 c := fun c => by
    obtain ⟨g, l, rfl⟩ := exists_lane x
    rw [widen_at, pay29_at]
  rw [h]
  pointwise [k0_pay28, h']

/-- The weighted sum after a chunk. -/
theorem pay25_at (w0 w1 w2 w3 : BitVec 32) (m : FVec Ideal S32x1 .f32) (a : FVec Ideal S32x256 .f32) (v : FVec Ideal S1x256x2048 .fp8e4m3)
    (s : FVec Ideal S32x2048 .f32) (r : Fin 32) (c : Fin 256) :
    k0_pay25 (F := Ideal) (k0_pay30 w0 w1 w2 w3) m a v s (ix2 r c)
      = a (ix2 r c) + ∑ x, k0_pay24 (F := Ideal) m s (ix2 r x) * (v (ix3 0 c x) * perHead 64 w0 w1 w2 w3 c) := by
  have h : k0_pay25 (F := Ideal) (k0_pay30 w0 w1 w2 w3) m a v s
      = addf a (matmul dot_S32x2048_S256x2048_S32x256_1_1_0_0_n_n none (truncf .bf16 (k0_pay24 m s) bitsLt_bf16_f32) (widen (k0_pay30 w0 w1 w2 w3) v) (constant S32x256 .f32 0x00000000#32)) := rfl
  have h' : ∀ x, widen (F := Ideal) (k0_pay30 w0 w1 w2 w3) v (ix2 c x) = v (ix3 0 c x) * perHead 64 w0 w1 w2 w3 c := fun x => by
    obtain ⟨g, l, rfl⟩ := exists_lane x
    rw [widen_at, pay30_at]
  rw [h]
  pointwise [h']

/-- The running maximum after a chunk, bounded as before. -/
theorem pay32_le_iff (a : FVec Ideal S32x128 .f32) (q : FVec Ideal S32x256 .bf16) (e : FVec Ideal S32x1 .f32) (w : FVec Ideal S256x128 .bf16)
    (k : FVec Ideal S1x256x2048 .fp8e4m3) (r : Fin 32) (l : Fin 128) (y : EReal) :
    k0_pay32 (F := Ideal) a (k0_pay20 q e w k) (k0_pay22 q e w k) (k0_pay23 q e w k) (ix2 r l) ≤ y
      ↔ a (ix2 r l) ≤ y ∧ ∀ g, k0_pay20 (F := Ideal) q e w k (ix2 r (lane g l)) ≤ y := by
  pointwise [k0_pay32, k0_pay22, k0_pay23, lane]
  simp [Fin.forall_fin_succ, and_assoc]

/-- What is stored of a chunk is its scores. -/
theorem pay21_eq (q : FVec Ideal S32x256 .bf16) (e : FVec Ideal S32x1 .f32) (w : FVec Ideal S256x128 .bf16)
    (k : FVec Ideal S1x256x2048 .fp8e4m3) (r : Fin 32) (x : Fin 2048) :
    k0_pay21 (F := Ideal) q e w k (ix2 r x) = k0_pay20 (F := Ideal) q e w k (ix2 r x) := by
  pointwise [k0_pay21]

/-- The sum of the weights in a lane after a chunk. -/
theorem pay36_at (m : FVec Ideal S32x1 .f32) (a : FVec Ideal S32x128 .f32) (s : FVec Ideal S32x2048 .f32) (r : Fin 32) (l : Fin 128) :
    k0_pay36 (F := Ideal) a (k0_pay24 m s) (k0_pay26 m s) (k0_pay27 m s) (ix2 r l)
      = a (ix2 r l) + ∑ g, k0_pay24 (F := Ideal) m s (ix2 r (lane g l)) := by
  pointwise [k0_pay36, k0_pay26, k0_pay27, lane]
  simp [Fin.sum_univ_succ, add_assoc]

end Unfolded

end Cert.KernelIdeal.Gen

end
-- ==== Proof.Chunks.lean ====
/- The chunk that a trip of a loop of the kernel reads or stores, and the scores after all their chunks are stored. -/
module

public import proofs.«01_k».proof.Proof.Trips
public import proofs.«01_k».proof.Proof.Attend
public import proofs.«01_k».proof.Proof.Payloads
public import Idealize.ShloMosaic.Lib.Pipeline.ValueKit
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Cert.Attend (row)

theorem trips1 : k0_t1_loop.trips = 16 := by decide +kernel
theorem trips2 : k0_t2_loop.trips = 16 := by decide +kernel
theorem trips3 : k0_t3_loop.trips = 16 := by decide +kernel
theorem trips4 : k0_t4_loop.trips = 16 := by decide +kernel

theorem off1_eq : ∀ k, k0_off1 k = ![0, 0, 2048 * (k : ℕ)] := by decide +kernel
theorem off2_eq : ∀ k, k0_off2 k = ![0, 2048 * (k : ℕ)] := by decide +kernel
theorem off3_eq : ∀ k, k0_off3 k = ![0, 0, 2048 * (k : ℕ)] := by decide +kernel
theorem off4_eq : ∀ k, k0_off4 k = ![0, 2048 * (k : ℕ)] := by decide +kernel
theorem off5_eq : ∀ k, k0_off5 k = ![0, 0, 2048 * (k : ℕ)] := by decide +kernel
theorem off6_eq : ∀ k, k0_off6 k = ![0, 2048 * (k : ℕ)] := by decide +kernel
theorem off7_eq : ∀ k, k0_off7 k = ![0, 0, 2048 * (k : ℕ)] := by decide +kernel
theorem off8_eq : ∀ k, k0_off8 k = ![0, 2048 * (k : ℕ)] := by decide +kernel

/-- A chunk of the codes, read at a channel and a row of the chunk, is the codes at the row of the cache. -/
theorem chunk3_at {m : Memref sig .tc .vmem S1x256x32768 .fp8e4m3} (h : m.IsWhole) (X : Vec Ideal S1x256x32768 .fp8e4m3)
    {off : Fin 3 → ℕ} (inb) (k : ℕ) (hk : k < 16) (ho : off = ![0, 0, 2048 * k]) (c : Fin 256) (x : Fin 2048) :
    (m.view.readAt (Elt Ideal) (Rect.unit (s := S1x256x32768) off S1x256x2048.size inb).toLoadRect (h.unread X) : FVec Ideal S1x256x2048 .fp8e4m3) (ix3 0 c x)
      = X (ix3 0 c (row k hk x)) := by
  subst ho
  refine (h.readAt_unread X _ _).trans (congrArg X ?_)
  funext a
  match a with
  | ⟨0, _⟩ => rfl
  | ⟨1, _⟩ => exact Fin.ext (by show 0 + 1 * (c : ℕ) = c; omega)
  | ⟨2, _⟩ => exact Fin.ext (by show 2048 * k + 1 * (x : ℕ) = 2048 * k + x; omega)

/-- A chunk of the scores, read at a query and a row of the chunk, is the scores at the row of the cache. -/
theorem chunk2_at {m : Memref sig .tc .vmem S32x32768 .f32} (h : m.IsWhole) (X : Vec Ideal S32x32768 .f32)
    {off : Fin 2 → ℕ} (inb) (k : ℕ) (hk : k < 16) (ho : off = ![0, 2048 * k]) (r : Fin 32) (x : Fin 2048) :
    (m.view.readAt (Elt Ideal) (Rect.unit (s := S32x32768) off S32x2048.size inb).toLoadRect (h.unread X) : FVec Ideal S32x2048 .f32) (ix2 r x)
      = X (ix2 r (row k hk x)) := by
  subst ho
  refine (h.readAt_unread X _ _).trans (congrArg X ?_)
  funext a
  match a with
  | ⟨0, _⟩ => exact Fin.ext (by show 0 + 1 * (r : ℕ) = r; omega)
  | ⟨1, _⟩ => exact Fin.ext (by show 2048 * k + 1 * (x : ℕ) = 2048 * k + x; omega)

/-- Sixteen stored chunks whose values are those of one array of scores leave that array, whatever was there before. -/
theorem writes_chunks {m : Memref sig .tc .vmem S32x32768 .f32} (h : m.IsWhole) (S : Vec Ideal S32x32768 .f32)
    {T : ℕ} (hT : T = 16) (off : Fin T → Fin 2 → ℕ) (inb : ∀ k a, off k a + S32x2048.size a ≤ S32x32768.size a)
    (ho : ∀ k, off k = ![0, 2048 * (k : ℕ)]) (w : Fin T → FVec Ideal S32x2048 .f32)
    (hw : ∀ k r x, w k (ix2 r x) = S (ix2 r (row k (by omega) x)))
    (L : ℕ → List (View.Piece (Elt Ideal) S32x32768 .f32)) (h0 : L 0 = [])
    (hs : ∀ k : Fin T, L (k + 1) = ⟨Rect.unit (s := S32x32768) (off k) S32x2048.size (inb k), w k⟩ :: L k)
    (f : m.view.ty.Contents (Elt Ideal)) : m.view.writes (Elt Ideal) f (L 16) = h.unread S := by
  subst hT
  have hL : ∀ n, n ≤ 16 → (∀ p ∈ L n, ∀ x : p.1.shape.Idx, p.2 x = S (p.1.emb x))
      ∧ ∀ y : S32x32768.Idx, (y 1 : ℕ) < 2048 * n → ∃ p ∈ L n, y ∈ p.1.set := by
    intro n
    induction n with
    | zero => intro _; exact ⟨by simp [h0], fun y hy => absurd hy (by omega)⟩
    | succ n ih =>
      intro hn
      obtain ⟨ih1, ih2⟩ := ih (by omega)
      rw [show L (n + 1) = _ from hs ⟨n, hn⟩]
      constructor
      · intro p hp
        rcases List.mem_cons.1 hp with rfl | hp
        · intro x
          obtain ⟨r, x, rfl⟩ : ∃ (r : Fin 32) (l : Fin 2048), x = ix2 r l := ⟨x 0, x 1, by funext a; match a with | ⟨0, _⟩ => rfl | ⟨1, _⟩ => rfl⟩
          refine (hw ⟨n, hn⟩ r x).trans (congrArg S ?_)
          funext a
          match a with
          | ⟨0, _⟩ => exact Fin.ext (by show (r : ℕ) = off ⟨n, hn⟩ 0 + 1 * (r : ℕ); rw [ho]; simp)
          | ⟨1, _⟩ => exact Fin.ext (by show 2048 * n + (x : ℕ) = off ⟨n, hn⟩ 1 + 1 * (x : ℕ); rw [ho]; simp)
        · exact ih1 p hp
      · intro y hy
        by_cases h' : (y 1 : ℕ) < 2048 * n
        · obtain ⟨p, hp, hy'⟩ := ih2 y h'
          exact ⟨p, List.mem_cons_of_mem _ hp, hy'⟩
        · refine ⟨_, List.mem_cons_self, (Rect.mem_set_unit (inb := inb ⟨n, hn⟩)).2 fun a => ?_⟩
          rw [ho]
          match a with
          | ⟨0, _⟩ => exact ⟨Nat.zero_le _, by show (y 0 : ℕ) < 0 + 32; have := (y 0).isLt; change (y 0 : ℕ) < 32 at this; omega⟩
          | ⟨1, _⟩ => exact ⟨by show 2048 * n ≤ (y 1 : ℕ); omega, by show (y 1 : ℕ) < 2048 * n + 2048; omega⟩
  obtain ⟨h1, h2⟩ := hL 16 le_rfl
  have hc : ∀ y : S32x32768.Idx, ∃ p ∈ L 16, y ∈ p.1.set := fun y => h2 y (by have := (y 1).isLt; change (y 1 : ℕ) < 32768 at this; omega)
  exact h.eq_unread ((View.read_writes_eq_canon m.view f (L 16) hc).trans (funext fun y => View.canon_apply_of_pieces S (L 16) h1 y (hc y)))

end Cert.KernelIdeal.Gen

end
-- ==== Proof.Sweep.lean ====
/- What the loops of the kernel have computed when they end, over the extended reals: the scores, their maximum, the sum of
   the weights and the weighted sum of the values. -/
module

public import proofs.«01_k».proof.Proof.Chunks

@[expose] public section

set_option maxRecDepth 16384

noncomputable section

namespace Cert.KernelIdeal.Gen

open Idealize.ShloMosaic Idealize.ShloMosaic.TcCoe Idealize.ShloMosaic.Tactic
open Cert.Attend (row)

/-- The word of minus infinity is the least extended real. -/
theorem ofBits_bot : Ideal.ofBits .f32 0xFF800000#32 = (⊥ : EReal) := by simp [Ideal.ofBits, Ideal.ieee]

/-- The scores where the scale is multiplied into the product. -/
def scoresF (q : FVec Ideal S32x256 .bf16) (w0 w1 w2 w3 : BitVec 32) (K : Vec Ideal S1x256x32768 .fp8e4m3) : Vec Ideal S32x32768 .f32 :=
  fun y => (∑ c : Fin 256, q (ix2 (y 0) c) * K (ix3 0 c (y 1))) * (perHead 8 w0 w1 w2 w3 (y 0) * Ideal.ofBits .f32 0x3E000000#32)

/-- The scores where the scales are multiplied into the codes. -/
def scoresG (q : FVec Ideal S32x256 .bf16) (w0 w1 w2 w3 : BitVec 32) (K : Vec Ideal S1x256x32768 .fp8e4m3) : Vec Ideal S32x32768 .f32 :=
  fun y => (∑ c : Fin 256, q (ix2 (y 0) c) * (K (ix3 0 c (y 1)) * perHead 64 w0 w1 w2 w3 c)) * Ideal.ofBits .f32 0x3E000000#32

variable (𝒱 : Variants) (c : Dev nD) (bd : Option 𝒱.V) (i : grid0.Coords)
  {arg1 : Memref sig .tc .smem S4 .i32} (harg1 : arg1.IsWhole) {arg2 : Memref sig .tc .smem S4 .i32} (harg2 : arg2.IsWhole) {arg3 : Memref sig .tc .vmem S1x32x256 .bf16} (harg3 : arg3.IsWhole) {arg4 : Memref sig .tc .vmem S64x256 .bf16} (harg4 : arg4.IsWhole) {arg5 : Memref sig .tc .vmem S64x256 .bf16} (harg5 : arg5.IsWhole) {arg6 : Memref sig .tc .vmem S1x256 .i32} (harg6 : arg6.IsWhole) {arg7 : Memref sig .tc .vmem S1x256 .i32} (harg7 : arg7.IsWhole) {arg8 : Memref sig .tc .vmem S1x256x32768 .fp8e4m3} (harg8 : arg8.IsWhole) {arg9 : Memref sig .tc .vmem S1x256x32768 .fp8e4m3} (harg9 : arg9.IsWhole) {arg10 : Memref sig .tc .vmem S1x32x64 .bf16} (harg10 : arg10.IsWhole) {arg11 : Memref sig .tc .vmem S64x256 .fp8e4m3} (harg11 : arg11.IsWhole) {arg12 : Memref sig .tc .vmem S64x256 .fp8e4m3} (harg12 : arg12.IsWhole) {arg13 : Memref sig .tc .vmem S32x32768 .f32} (harg13 : arg13.IsWhole) {arg14 : Memref sig .tc .vmem S64x256 .f32} (harg14 : arg14.IsWhole) {arg15 : Memref sig .tc .vmem S64x256 .f32} (harg15 : arg15.IsWhole) {arg16 : Memref sig .tc .vmem S32x1 .f32} (harg16 : arg16.IsWhole) {arg17 : Memref sig .tc .vmem S32x1 .f32} (harg17 : arg17.IsWhole) {arg18 : Memref sig .tc .vmem S32x256 .f32} (harg18 : arg18.IsWhole)

/-- The score loop leaves the scores in the scratch array, whatever was there before. -/
theorem scores1 (q : FVec Ideal S32x256 .bf16) (w0 w1 w2 w3 : BitVec 32) (K : Vec Ideal S1x256x32768 .fp8e4m3) (f : arg13.view.ty.Contents (Elt Ideal)) :
    arg13.view.writes (Elt Ideal) f (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 (harg8.unread K) k0_pay7 16).2
      = harg13.unread (scoresF q w0 w1 w2 w3 K) := by
  refine writes_chunks harg13 (scoresF q w0 w1 w2 w3 K) trips1 k0_off2 k0_off2_inb off2_eq
    (fun k => k0_pay9 q w0 w1 w2 w3 (arg8.view.readAt (Elt Ideal) (Rect.unit (s := S1x256x32768) (k0_off1 k) S1x256x2048.size (k0_off1_inb k)).toLoadRect (harg8.unread K)))
    (fun k r x => ?_) (fun n => (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 (harg8.unread K) k0_pay7 n).2) rfl (fun k => ?_) f
  · rw [pay9_at]
    simp only [chunk3_at harg8 K _ k (trips1 ▸ k.isLt) (off1_eq k)]
    rfl
  · dsimp only
    rw [st_k0_t1_succ, tripL1_eq]; rfl

/-- Their maximum over all the rows. -/
theorem max1 (q : FVec Ideal S32x256 .bf16) (w0 w1 w2 w3 : BitVec 32) (K : Vec Ideal S1x256x32768 .fp8e4m3) (r : Fin 32) :
    k0_pay11 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 (harg8.unread K) k0_pay7 16).1 (ix2 r 0)
      = Finset.univ.fold max ⊥ fun j => scoresF q w0 w1 w2 w3 K (ix2 r j) := by
  rw [pay11_at, ofBits_bot]
  refine Attend.scan_max (fun n l => (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 (harg8.unread K) k0_pay7 n).1 (ix2 r l)) (fun j => scoresF q w0 w1 w2 w3 K (ix2 r j)) (fun l => ?_) fun k hk l y => ?_
  · exact ofBits_bot
  · have h := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 (harg8.unread K) k0_pay7 ⟨k, trips1.symm ▸ hk⟩
    dsimp only at h ⊢
    rw [h, tripR1_eq, pay10_le_iff]
    refine and_congr_right fun _ => forall_congr' fun g => ?_
    rw [pay9_at]
    simp only [chunk3_at harg8 K _ k hk (off1_eq ⟨k, trips1.symm ▸ hk⟩)]
    rfl

/-- The second loop leaves lanes that add up to the sum of the weights. -/
theorem sum2 (q : FVec Ideal S32x256 .bf16) (v : FVec Ideal S32x128 .f32) (V : Vec Ideal S1x256x32768 .fp8e4m3) (S : Vec Ideal S32x32768 .f32) (r : Fin 32) :
    ∑ l : Fin 128, (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q v (harg9.unread V) (harg13.unread S) (k0_pay12, k0_pay13) 16).1 (ix2 r l)
      = ∑ j, Ideal.exp (S (ix2 r j) - k0_pay11 (F := Ideal) v (ix2 r 0)) := by
  refine Attend.scan_sum_lanes (fun n l => (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q v (harg9.unread V) (harg13.unread S) (k0_pay12, k0_pay13) n).1 (ix2 r l))
    (fun j => Ideal.exp (S (ix2 r j) - k0_pay11 (F := Ideal) v (ix2 r 0))) (fun l => ?_) fun k hk l => ?_
  · exact Ideal.ofBits_zero .f32
  · have h := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q v (harg9.unread V) (harg13.unread S) (k0_pay12, k0_pay13) ⟨k, trips2.symm ▸ hk⟩
    dsimp only at h ⊢
    rw [h, tripR2_eq]
    dsimp only
    rw [pay16_at]
    simp only [pay14_at, chunk2_at harg13 S _ k hk (off4_eq ⟨k, trips2.symm ▸ hk⟩)]
    rfl

/-- It also leaves the weighted sum of the values. -/
theorem acc2 (q : FVec Ideal S32x256 .bf16) (v : FVec Ideal S32x128 .f32) (V : Vec Ideal S1x256x32768 .fp8e4m3) (S : Vec Ideal S32x32768 .f32) (r : Fin 32) (d : Fin 256) :
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q v (harg9.unread V) (harg13.unread S) (k0_pay12, k0_pay13) 16).2 (ix2 r d)
      = ∑ j, Ideal.exp (S (ix2 r j) - k0_pay11 (F := Ideal) v (ix2 r 0)) * V (ix3 0 d j) := by
  refine Attend.scan_sum (fun n => (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q v (harg9.unread V) (harg13.unread S) (k0_pay12, k0_pay13) n).2 (ix2 r d))
    (fun j => Ideal.exp (S (ix2 r j) - k0_pay11 (F := Ideal) v (ix2 r 0)) * V (ix3 0 d j)) ?_ fun k hk => ?_
  · exact Ideal.ofBits_zero .f32
  · have h := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q v (harg9.unread V) (harg13.unread S) (k0_pay12, k0_pay13) ⟨k, trips2.symm ▸ hk⟩
    dsimp only at h ⊢
    rw [h, tripR2_eq]
    dsimp only
    rw [pay15_at]
    simp only [pay14_at, chunk2_at harg13 S _ k hk (off4_eq ⟨k, trips2.symm ▸ hk⟩), chunk3_at harg9 V _ k hk (off3_eq ⟨k, trips2.symm ▸ hk⟩)]

/-- The score loop leaves the scores, where the scales are in the codes. -/
theorem scores3 (q : FVec Ideal S32x256 .bf16) (w0 w1 w2 w3 : BitVec 32) (K : Vec Ideal S1x256x32768 .fp8e4m3) (f : arg13.view.ty.Contents (Elt Ideal)) :
    arg13.view.writes (Elt Ideal) f (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 (harg8.unread K) k0_pay31 16).2
      = harg13.unread (scoresG q w0 w1 w2 w3 K) := by
  refine writes_chunks harg13 (scoresG q w0 w1 w2 w3 K) trips3 k0_off6 k0_off6_inb off6_eq
    (fun k => k0_pay21 q (k0_pay28 (F := Ideal)) (k0_pay29 w0 w1 w2 w3) (arg8.view.readAt (Elt Ideal) (Rect.unit (s := S1x256x32768) (k0_off5 k) S1x256x2048.size (k0_off5_inb k)).toLoadRect (harg8.unread K)))
    (fun k r x => ?_) (fun n => (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 (harg8.unread K) k0_pay31 n).2) rfl (fun k => ?_) f
  · rw [pay21_eq, pay20_at]
    simp only [chunk3_at harg8 K _ k (trips3 ▸ k.isLt) (off5_eq k)]
    rfl
  · dsimp only
    rw [st_k0_t3_succ, tripL3_eq]; rfl

/-- Their maximum over all the rows. -/
theorem max3 (q : FVec Ideal S32x256 .bf16) (w0 w1 w2 w3 : BitVec 32) (K : Vec Ideal S1x256x32768 .fp8e4m3) (r : Fin 32) :
    k0_pay33 (F := Ideal) (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 (harg8.unread K) k0_pay31 16).1 (ix2 r 0)
      = Finset.univ.fold max ⊥ fun j => scoresG q w0 w1 w2 w3 K (ix2 r j) := by
  rw [pay33_at, ofBits_bot]
  refine Attend.scan_max (fun n l => (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 (harg8.unread K) k0_pay31 n).1 (ix2 r l)) (fun j => scoresG q w0 w1 w2 w3 K (ix2 r j)) (fun l => ?_) fun k hk l y => ?_
  · exact ofBits_bot
  · have h := st_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 (harg8.unread K) k0_pay31 ⟨k, trips3.symm ▸ hk⟩
    dsimp only at h ⊢
    rw [h, tripR3_eq, pay32_le_iff]
    refine and_congr_right fun _ => forall_congr' fun g => ?_
    rw [pay20_at]
    simp only [chunk3_at harg8 K _ k hk (off5_eq ⟨k, trips3.symm ▸ hk⟩)]
    rfl

/-- The second loop leaves lanes that add up to the sum of the weights. -/
theorem sum4 (q : FVec Ideal S32x256 .bf16) (w0 w1 w2 w3 : BitVec 32) (v : FVec Ideal S32x128 .f32) (V : Vec Ideal S1x256x32768 .fp8e4m3) (S : Vec Ideal S32x32768 .f32) (r : Fin 32) :
    ∑ l : Fin 128, (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 v (harg9.unread V) (harg13.unread S) (k0_pay34, k0_pay35) 16).1 (ix2 r l)
      = ∑ j, Ideal.exp (S (ix2 r j) - k0_pay33 (F := Ideal) v (ix2 r 0)) := by
  refine Attend.scan_sum_lanes (fun n l => (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 v (harg9.unread V) (harg13.unread S) (k0_pay34, k0_pay35) n).1 (ix2 r l))
    (fun j => Ideal.exp (S (ix2 r j) - k0_pay33 (F := Ideal) v (ix2 r 0))) (fun l => ?_) fun k hk l => ?_
  · exact Ideal.ofBits_zero .f32
  · have h := st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 v (harg9.unread V) (harg13.unread S) (k0_pay34, k0_pay35) ⟨k, trips4.symm ▸ hk⟩
    dsimp only at h ⊢
    rw [h, tripR4_eq]
    dsimp only
    rw [pay36_at]
    simp only [pay24_at, chunk2_at harg13 S _ k hk (off8_eq ⟨k, trips4.symm ▸ hk⟩)]
    rfl

/-- It also leaves the weighted sum of the scaled values. -/
theorem acc4 (q : FVec Ideal S32x256 .bf16) (w0 w1 w2 w3 : BitVec 32) (v : FVec Ideal S32x128 .f32) (V : Vec Ideal S1x256x32768 .fp8e4m3) (S : Vec Ideal S32x32768 .f32) (r : Fin 32) (d : Fin 256) :
    (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 v (harg9.unread V) (harg13.unread S) (k0_pay34, k0_pay35) 16).2 (ix2 r d)
      = ∑ j, Ideal.exp (S (ix2 r j) - k0_pay33 (F := Ideal) v (ix2 r 0)) * (V (ix3 0 d j) * perHead 64 w0 w1 w2 w3 d) := by
  refine Attend.scan_sum (fun n => (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 v (harg9.unread V) (harg13.unread S) (k0_pay34, k0_pay35) n).2 (ix2 r d))
    (fun j => Ideal.exp (S (ix2 r j) - k0_pay33 (F := Ideal) v (ix2 r 0)) * (V (ix3 0 d j) * perHead 64 w0 w1 w2 w3 d)) ?_ fun k hk => ?_
  · exact Ideal.ofBits_zero .f32
  · have h := st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q w0 w1 w2 w3 v (harg9.unread V) (harg13.unread S) (k0_pay34, k0_pay35) ⟨k, trips4.symm ▸ hk⟩
    dsimp only at h ⊢
    rw [h, tripR4_eq]
    dsimp only
    rw [pay25_at]
    simp only [pay24_at, chunk2_at harg13 S _ k hk (off8_eq ⟨k, trips4.symm ▸ hk⟩), chunk3_at harg9 V _ k hk (off7_eq ⟨k, trips4.symm ▸ hk⟩)]

end Cert.KernelIdeal.Gen

end
-- ==== Proof.Output.lean ====
/- What one grid point writes into its block of the attention result, from the running values of the loops. -/
module

public import proofs.«01_k».proof.Proof.Sweep

@[expose] public section

set_option maxRecDepth 16384

noncomputable section

namespace Cert.KernelIdeal.Gen

open Idealize.ShloMosaic Idealize.ShloMosaic.TcCoe Idealize.ShloMosaic.Tactic
open Cert.Attend (attend)

theorem pay19_at (v : FVec Ideal S32x128 .f32) (r : Fin 32) : k0_pay19 (F := Ideal) v (ix2 r 0) = k0_pay11 (F := Ideal) v (ix2 r 0) := by
  pointwise [k0_pay19]

theorem pay41_at (v : FVec Ideal S32x1 .f32) (r : Fin 32) : k0_pay41 (F := Ideal) v (ix2 r 0) = v (ix2 r 0) := by
  pointwise [k0_pay41]

theorem pay39_at (v : FVec Ideal S32x128 .f32) (r : Fin 32) : k0_pay39 (F := Ideal) (k0_pay17 v) (ix2 r 0) = ∑ l, v (ix2 r l) := by
  pointwise [k0_pay39, k0_pay17]

theorem pay42_at (v : FVec Ideal S32x128 .f32) (r : Fin 32) : k0_pay42 (F := Ideal) v (ix2 r 0) = ∑ l, v (ix2 r l) := by
  pointwise [k0_pay42]

theorem pay40_at (v : FVec Ideal S32x256 .f32) (w : IVec S1x256 32) (r : Fin 32) (d : Fin 256) :
    k0_pay40 (F := Ideal) (k0_pay18 v w) (ix2 r d) = v (ix2 r d) * Ideal.ofBits .f32 (w (ix2 0 d)) := by
  pointwise [k0_pay40, k0_pay18]

theorem pay43_at (v : FVec Ideal S32x256 .f32) (r : Fin 32) (d : Fin 256) : k0_pay43 (F := Ideal) v (ix2 r d) = v (ix2 r d) := by
  pointwise [k0_pay43]

theorem pay44_at (q : FVec Ideal S1x32x256 .bf16) (kd : FVec Ideal S1x256 .f32) (r : Fin 32) (c : Fin 256) :
    k0_pay44 (F := Ideal) (k0_pay38 q) kd (ix2 r c) = q (ix3 0 r c) * kd (ix2 0 c) := by
  pointwise [k0_pay44, k0_pay38]

theorem pay38_at (q : FVec Ideal S1x32x256 .bf16) (r : Fin 32) (c : Fin 256) : k0_pay38 (F := Ideal) q (ix2 r c) = q (ix3 0 r c) := by
  pointwise [k0_pay38]

/-- The column of the wide result that belongs to row `r`, column `d`. -/
def col (r : Fin 32) (d : Fin 64) : Fin 256 := ⟨64 * (r / 8) + d, by omega⟩

/-- The score of the new row: the sum of the products, times the softmax factor. -/
def newScore (Q : FVec Ideal S32x256 .f32) (r : Fin 32) : EReal := (∑ c, Q (ix2 r c)) * Ideal.ofBits .f32 0x3E000000#32

/-- The attention over the cache, merged with the new row. -/
def merged (M L : FVec Ideal S32x1 .f32) (A Q : FVec Ideal S32x256 .f32) (VD : FVec Ideal S1x256 .f32) (r : Fin 32) (d : Fin 256) : EReal :=
  Ideal.div
    (A (ix2 r d) * Ideal.exp (M (ix2 r 0) - max (M (ix2 r 0)) (newScore Q r)) + Ideal.exp (newScore Q r - max (M (ix2 r 0)) (newScore Q r)) * VD (ix2 0 d))
    (L (ix2 r 0) * Ideal.exp (M (ix2 r 0) - max (M (ix2 r 0)) (newScore Q r)) + Ideal.exp (newScore Q r - max (M (ix2 r 0)) (newScore Q r)))

theorem pay45_at (M L : FVec Ideal S32x1 .f32) (A Q : FVec Ideal S32x256 .f32) (VD : FVec Ideal S1x256 .f32) (r : Fin 32) (d : Fin 256) :
    k0_pay45 (F := Ideal) M L A Q VD (ix2 r d) = merged M L A Q VD r d := by
  pointwise [k0_pay45, merged, newScore]

theorem pay46_at (M L : FVec Ideal S32x1 .f32) (A Q : FVec Ideal S32x256 .f32) (VD : FVec Ideal S1x256 .f32) (r : Fin 8) (d : Fin 64) :
    k0_pay46 (F := Ideal) M L A Q VD (ix3 0 r d) = k0_pay45 (F := Ideal) M L A Q VD (ix2 ⟨r, by omega⟩ ⟨d, by omega⟩) := by
  pointwise [k0_pay46]

theorem pay47_at (M L : FVec Ideal S32x1 .f32) (A Q : FVec Ideal S32x256 .f32) (VD : FVec Ideal S1x256 .f32) (r : Fin 8) (d : Fin 64) :
    k0_pay47 (F := Ideal) M L A Q VD (ix3 0 r d) = k0_pay45 (F := Ideal) M L A Q VD (ix2 ⟨8 + r, by omega⟩ ⟨64 + d, by omega⟩) := by
  pointwise [k0_pay47]

theorem pay48_at (M L : FVec Ideal S32x1 .f32) (A Q : FVec Ideal S32x256 .f32) (VD : FVec Ideal S1x256 .f32) (r : Fin 8) (d : Fin 64) :
    k0_pay48 (F := Ideal) M L A Q VD (ix3 0 r d) = k0_pay45 (F := Ideal) M L A Q VD (ix2 ⟨16 + r, by omega⟩ ⟨128 + d, by omega⟩) := by
  pointwise [k0_pay48]

theorem pay49_at (M L : FVec Ideal S32x1 .f32) (A Q : FVec Ideal S32x256 .f32) (VD : FVec Ideal S1x256 .f32) (r : Fin 8) (d : Fin 64) :
    k0_pay1 (F := Ideal) (k0_pay49 (F := Ideal) M L A Q VD) (ix3 0 r d) = k0_pay45 (F := Ideal) M L A Q VD (ix2 ⟨24 + r, by omega⟩ ⟨192 + d, by omega⟩) := by
  pointwise [k0_pay1, k0_pay49]

section Pieces

variable {F : FTy → Type} [FloatOps F]

/-- The four stores of a point: each head's rows, from the columns of that head. -/
def yPieces (M L : FVec F S32x1 .f32) (A Q : FVec F S32x256 .f32) (VD : FVec F S1x256 .f32) : List (View.Piece (Elt F) S1x32x64 .bf16) :=
  [⟨Rect.unit (s := S1x32x64) ![0, 24, 0] S1x8x64.size inb_S1x32x64_S1x8x64_0_24_0, k0_pay1 (k0_pay49 M L A Q VD)⟩,
   ⟨Rect.unit (s := S1x32x64) ![0, 16, 0] S1x8x64.size inb_S1x32x64_S1x8x64_0_16_0, k0_pay48 M L A Q VD⟩,
   ⟨Rect.unit (s := S1x32x64) ![0, 8, 0] S1x8x64.size inb_S1x32x64_S1x8x64_0_8_0, k0_pay47 M L A Q VD⟩,
   ⟨Rect.unit (s := S1x32x64) ![0, 0, 0] S1x8x64.size inb_S1x32x64_S1x8x64_0_0_0, k0_pay46 M L A Q VD⟩]

/-- The four stores cover the block. -/
theorem yPieces_cover (M L : FVec F S32x1 .f32) (A Q : FVec F S32x256 .f32) (VD : FVec F S1x256 .f32) (y : S1x32x64.Idx) :
    ∃ p ∈ yPieces M L A Q VD, y ∈ p.1.set := by
  have h0 : (y 0 : ℕ) < 1 := (y 0).isLt
  have h1 : (y 1 : ℕ) < 32 := (y 1).isLt
  have h2 : (y 2 : ℕ) < 64 := (y 2).isLt
  have hm : ∀ o inb, o ≤ (y 1 : ℕ) → (y 1 : ℕ) < o + 8 → y ∈ (Rect.unit (s := S1x32x64) ![0, o, 0] S1x8x64.size inb).set := fun o inb ha hb =>
    (Rect.mem_set_unit (inb := inb)).2 fun a => match a with
      | ⟨0, _⟩ => ⟨Nat.zero_le _, by show (y 0 : ℕ) < 0 + 1; omega⟩
      | ⟨1, _⟩ => ⟨ha, hb⟩
      | ⟨2, _⟩ => ⟨Nat.zero_le _, by show (y 2 : ℕ) < 0 + 64; omega⟩
  by_cases ha : (y 1 : ℕ) < 8
  · exact ⟨_, List.mem_cons_of_mem _ (List.mem_cons_of_mem _ (List.mem_cons_of_mem _ List.mem_cons_self)), hm 0 inb_S1x32x64_S1x8x64_0_0_0 (by omega) (by omega)⟩
  by_cases hb : (y 1 : ℕ) < 16
  · exact ⟨_, List.mem_cons_of_mem _ (List.mem_cons_of_mem _ List.mem_cons_self), hm 8 inb_S1x32x64_S1x8x64_0_8_0 (by omega) (by omega)⟩
  by_cases hc : (y 1 : ℕ) < 24
  · exact ⟨_, List.mem_cons_of_mem _ List.mem_cons_self, hm 16 inb_S1x32x64_S1x8x64_0_16_0 (by omega) (by omega)⟩
  · exact ⟨_, List.mem_cons_self, hm 24 inb_S1x32x64_S1x8x64_0_24_0 (by omega) (by omega)⟩

end Pieces

section Whole

variable {F : FTy → Type} [FloatOps F] [∀ e, Nonempty (Elt F e)]

/-- Each loop of the kernel makes sixteen trips. -/
theorem sixteen : Scf.trips (0#32) (Scalar.addi 0#32 16#32) 1#32 = 16 := by decide +kernel

/-- A load of a whole array that one store of the whole array precedes reads what was stored. -/
theorem whole_S32x1 (v : View sig .tc .vmem S32x1 .f32) (w : Vec F S32x1 .f32) :
    v.readCov [(⟨Rect.unit (s := S32x1) ![0, 0] ![32, 1] inb_S32x1_S32x1_0_0, w⟩ : View.Piece (Elt F) S32x1 .f32)] (Rect.unit (s := S32x1) ![0, 0] ![32, 1] inb_S32x1_S32x1_0_0).toLoadRect = w :=
  View.readCov_unit_zero v (by decide) _ w

/-- The same of a wider array. -/
theorem whole_S32x256 (v : View sig .tc .vmem S32x256 .f32) (w : Vec F S32x256 .f32) :
    v.readCov [(⟨Rect.unit (s := S32x256) ![0, 0] ![32, 256] inb_S32x256_S32x256_0_0, w⟩ : View.Piece (Elt F) S32x256 .f32)] (Rect.unit (s := S32x256) ![0, 0] ![32, 256] inb_S32x256_S32x256_0_0).toLoadRect = w :=
  View.readCov_unit_zero v (by decide) _ w

/-- A load of a part of an array that one store of the whole array precedes reads that part of what was stored. -/
theorem part_S64x256 (v : View sig .tc .vmem S64x256 .f32) (w : Vec F S64x256 .f32) (B : Rect S64x256) :
    v.readAt (Elt F) B.toLoadRect (v.writes (Elt F) v.junk [(⟨Rect.unit (s := S64x256) ![0, 0] ![64, 256] inb_S64x256_S64x256_0_0, w⟩ : View.Piece (Elt F) S64x256 .f32)]) = View.ld w B := by
  show v.readCov _ B.toLoadRect = _
  rw [View.readCov_eq_canon_ld _ _ _ (fun y => ⟨_, List.mem_singleton_self _, View.mem_set_unit_zero (by decide) inb_S64x256_S64x256_0_0 y⟩), View.canon_unit_zero (by decide)]

/-- The row of an array of one row per batch element that belongs to a grid point. -/
def rowOf (v : Vec F S64x256 .f32) (i : grid0.Coords) : Vec F S1x256 .f32 := fun x => v ((Rect.unit (s := S64x256) (k0_off9 i) S1x256.size (k0_off9_inb i)).idx x)

end Whole

/-- What the four stores leave: in each row, the columns of the row's own head. -/
theorem canon_yPieces (M L : FVec Ideal S32x1 .f32) (A Q : FVec Ideal S32x256 .f32) (VD : FVec Ideal S1x256 .f32) (y : S1x32x64.Idx) :
    View.canon (yPieces (F := Ideal) M L A Q VD) y = merged M L A Q VD (y 1) (col (y 1) (y 2)) := by
  refine View.canon_apply_of_pieces (Val := Elt Ideal) (fun y : S1x32x64.Idx => merged M L A Q VD (y 1) (col (y 1) (y 2))) _ ?_ y (yPieces_cover M L A Q VD y)
  have hx : ∀ x : S1x8x64.Idx, ∃ (r : Fin 8) (d : Fin 64), x = ix3 0 r d := fun x =>
    ⟨x 1, x 2, by funext a; match a with | ⟨0, _⟩ => exact Fin.ext (by have : (x 0 : ℕ) < 1 := (x 0).isLt; show (x 0 : ℕ) = 0; omega) | ⟨1, _⟩ => rfl | ⟨2, _⟩ => rfl⟩
  have key : ∀ (r r' : Fin 32) (d d' : Fin 256), r = r' → d = d' → merged M L A Q VD r d = merged M L A Q VD r' d' := fun r r' d d' h h' => by rw [h, h']
  intro p hp
  simp only [yPieces, List.mem_cons, List.not_mem_nil, or_false] at hp
  rcases hp with rfl | rfl | rfl | rfl <;> intro x <;> obtain ⟨r, d, rfl⟩ := hx x
  · refine (pay49_at M L A Q VD r d).trans ((pay45_at ..).trans (key _ _ _ _ (Fin.ext ?_) (Fin.ext ?_)))
    · show 24 + (r : ℕ) = 24 + 1 * r; omega
    · show 192 + (d : ℕ) = 64 * ((24 + 1 * (r : ℕ)) / 8) + (0 + 1 * d); omega
  · refine (pay48_at M L A Q VD r d).trans ((pay45_at ..).trans (key _ _ _ _ (Fin.ext ?_) (Fin.ext ?_)))
    · show 16 + (r : ℕ) = 16 + 1 * r; omega
    · show 128 + (d : ℕ) = 64 * ((16 + 1 * (r : ℕ)) / 8) + (0 + 1 * d); omega
  · refine (pay47_at M L A Q VD r d).trans ((pay45_at ..).trans (key _ _ _ _ (Fin.ext ?_) (Fin.ext ?_)))
    · show 8 + (r : ℕ) = 8 + 1 * r; omega
    · show 64 + (d : ℕ) = 64 * ((8 + 1 * (r : ℕ)) / 8) + (0 + 1 * d); omega
  · refine (pay46_at M L A Q VD r d).trans ((pay45_at ..).trans (key _ _ _ _ (Fin.ext ?_) (Fin.ext ?_)))
    · show (r : ℕ) = 0 + 1 * r; omega
    · show (d : ℕ) = 64 * ((0 + 1 * (r : ℕ)) / 8) + (0 + 1 * d); omega

end Cert.KernelIdeal.Gen

end
-- ==== Proof.StoresB.lean ====
/- The stores of one run of the kernel's body: the first grid point, foldable scales. -/
module

public import proofs.«01_k».proof.Proof.RunB
public import proofs.«01_k».proof.Proof.Output
public import proofs.«01_k».proof.Proof.Conditions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What this run stores into the block of the result. -/
theorem runB_y  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : ¬cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (s0 : Vec F S32x32768 .f32) :
    (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).1 = yPieces (k0_pay19 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay7 16).1) (k0_pay39 (k0_pay17 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay7 16).1 (harg9.unread x8) (arg13.view.writes (Elt F) (harg13.unread s0) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay7 16).2) (k0_pay12, k0_pay13) 16).1)) (k0_pay40 (k0_pay18 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay7 16).1 (harg9.unread x8) (arg13.view.writes (Elt F) (harg13.unread s0) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay7 16).2) (k0_pay12, k0_pay13) 16).2 (arg7.view.readAt (Elt F) (Rect.unit (s := S1x256) ![0, 0] S1x256.size inb_S1x256_S1x256_0_0).toLoadRect (harg7.unread x6)))) (k0_pay44 (k0_pay38 (arg3.view.readAt (Elt F) (Rect.unit (s := S1x32x256) ![0, 0, 0] S1x32x256.size inb_S1x32x256_S1x32x256_0_0_0).toLoadRect (harg3.unread x2))) (rowOf (k0_pay4 (k0_pay3 (arg4.view.readAt (Elt F) (Rect.unit (s := S64x256) ![0, 0] S64x256.size inb_S64x256_S64x256_0_0).toLoadRect (harg4.unread x3)) (arg6.view.readAt (Elt F) (Rect.unit (s := S1x256) ![0, 0] S1x256.size inb_S1x256_S1x256_0_0).toLoadRect (harg6.unread x5)) (arg6.view.readAt (Elt F) (Rect.unit (s := S1x256) ![0, 0] S1x256.size inb_S1x256_S1x256_0_0).toLoadRect (harg6.unread x5)))) i)) (rowOf (k0_pay37 (k0_pay6 (arg5.view.readAt (Elt F) (Rect.unit (s := S64x256) ![0, 0] S64x256.size inb_S64x256_S64x256_0_0).toLoadRect (harg5.unread x4)) (arg7.view.readAt (Elt F) (Rect.unit (s := S1x256) ![0, 0] S1x256.size inb_S1x256_S1x256_0_0).toLoadRect (harg7.unread x6))) (arg7.view.readAt (Elt F) (Rect.unit (s := S1x256) ![0, 0] S1x256.size inb_S1x256_S1x256_0_0).toLoadRect (harg7.unread x6))) i) := by
  unfold runB
  simp only [runB.sl.v97, runB.sl.v98, runB.sl.v99, runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.HS3_1, runB.sl.HS4_1, runB.sl.HS5_1, runB.sl.r_14, runB.sl.r_15, runB.sl.v102, runB.sl.v121, runB.sl.HS1_1, runB.sl.HS2_1, runB.sl.H10_1, runB.sl.H11_1, sixteen, whole_S32x1, whole_S32x256, part_S64x256]
  rfl

/-- What this run stores into one of its whole arrays. -/
theorem runB_kc  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : ¬cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (s0 : Vec F S32x32768 .f32) :
    (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.1 = [⟨(Rect.unit (s := S64x256) ![0, 0] S64x256.size inb_S64x256_S64x256_0_0), (k0_pay2 (arg4.view.readAt (Elt F) (Rect.unit (s := S64x256) ![0, 0] S64x256.size inb_S64x256_S64x256_0_0).toLoadRect (harg4.unread x3)) (arg6.view.readAt (Elt F) (Rect.unit (s := S1x256) ![0, 0] S1x256.size inb_S1x256_S1x256_0_0).toLoadRect (harg6.unread x5)))⟩] := by
  unfold runB; dsimp only
  rfl

/-- What this run stores into one of its whole arrays. -/
theorem runB_vc  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : ¬cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (s0 : Vec F S32x32768 .f32) :
    (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.1 = [⟨(Rect.unit (s := S64x256) ![0, 0] S64x256.size inb_S64x256_S64x256_0_0), (k0_pay5 (arg5.view.readAt (Elt F) (Rect.unit (s := S64x256) ![0, 0] S64x256.size inb_S64x256_S64x256_0_0).toLoadRect (harg5.unread x4)) (arg7.view.readAt (Elt F) (Rect.unit (s := S1x256) ![0, 0] S1x256.size inb_S1x256_S1x256_0_0).toLoadRect (harg7.unread x6)))⟩] := by
  unfold runB; dsimp only
  rfl

/-- What this run stores into one of its whole arrays. -/
theorem runB_kd  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : ¬cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (s0 : Vec F S32x32768 .f32) :
    (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.2.1 = [⟨(Rect.unit (s := S64x256) ![0, 0] S64x256.size inb_S64x256_S64x256_0_0), (k0_pay4 (k0_pay3 (arg4.view.readAt (Elt F) (Rect.unit (s := S64x256) ![0, 0] S64x256.size inb_S64x256_S64x256_0_0).toLoadRect (harg4.unread x3)) (arg6.view.readAt (Elt F) (Rect.unit (s := S1x256) ![0, 0] S1x256.size inb_S1x256_S1x256_0_0).toLoadRect (harg6.unread x5)) (arg6.view.readAt (Elt F) (Rect.unit (s := S1x256) ![0, 0] S1x256.size inb_S1x256_S1x256_0_0).toLoadRect (harg6.unread x5))))⟩] := by
  unfold runB; dsimp only
  rfl

/-- What this run stores into one of its whole arrays. -/
theorem runB_vd  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : ¬cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (s0 : Vec F S32x32768 .f32) :
    (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.2.2.1 = [⟨(Rect.unit (s := S64x256) ![0, 0] S64x256.size inb_S64x256_S64x256_0_0), (k0_pay37 (k0_pay6 (arg5.view.readAt (Elt F) (Rect.unit (s := S64x256) ![0, 0] S64x256.size inb_S64x256_S64x256_0_0).toLoadRect (harg5.unread x4)) (arg7.view.readAt (Elt F) (Rect.unit (s := S1x256) ![0, 0] S1x256.size inb_S1x256_S1x256_0_0).toLoadRect (harg7.unread x6))) (arg7.view.readAt (Elt F) (Rect.unit (s := S1x256) ![0, 0] S1x256.size inb_S1x256_S1x256_0_0).toLoadRect (harg7.unread x6)))⟩] := by
  unfold runB; dsimp only
  rfl

end Cert.KernelIdeal.Gen

end
-- ==== Proof.RunC.lean ====
/- One run of the kernel's body: the first grid point, other scales. -/
module

public import proofs.«01_k».proof.Proof.Conditions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at the first grid point, when some scale is no such power of two. From the inputs' blocks it leaves the inputs as they were, the attention result, both arrays of codes and both arrays of dequantised rows stored,
    and its other buffers at something. What it stores in a buffer is the list of pieces that this definition carries.  -/
def runC (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : ¬cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (s0 : Vec F S32x32768 .f32) :
    Σ' (L9 : List (View.Piece (Elt F) S1x32x64 .bf16)), Σ' (L10 : List (View.Piece (Elt F) S64x256 .fp8e4m3)), Σ' (L11 : List (View.Piece (Elt F) S64x256 .fp8e4m3)), Σ' (LS1 : List (View.Piece (Elt F) S64x256 .f32)), { LS2 : List (View.Piece (Elt F) S64x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s0 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
    refine ⟨?_, ?_, ?_, ?_, ?_, fun E K => ?run⟩
    case run =>
      simp only [cc0_gqa_decode_fp8_eq_skeleton]; unfold cc0_gqa_decode_fp8_skel
      simp only [k0_part7_eq_skeleton, k0_part1_eq_skeleton, k0_part2_eq_skeleton, k0_part8_eq_skeleton, k0_part9_eq_skeleton, k0_part6_eq_skeleton, k0_part10_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0
      sl_exec (disch := first | sl_exact hc0 | sl_exact hc1 | sl_exact hc2)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; iexact H9
      isplitl [H10]
      · iexists _; iexact H10
      isplitl [H11]
      · iexists _; iexact H11
      isplitl [HS0]
      · iexists _, _; isplitr; swap; · iexact HS0
        ipureintro; rfl
      isplitl [HS1]
      · iexists _; iexact HS1
      isplitl [HS2]
      · iexists _; iexact HS2
      isplitl [HS3]
      · iexists _, _; isplitr; swap; · iexact HS3
        ipureintro; rfl
      isplitl [HS4]
      · iexists _, _; isplitr; swap; · iexact HS4
        ipureintro; rfl
      iexists _, _; isplitr; swap; · iexact HS5
      ipureintro; rfl

end Cert.KernelIdeal.Gen

end
-- ==== Proof.StoresC.lean ====
/- The stores of one run of the kernel's body: the first grid point, other scales. -/
module

public import proofs.«01_k».proof.Proof.RunC
public import proofs.«01_k».proof.Proof.Output
public import proofs.«01_k».proof.Proof.Conditions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What this run stores into the block of the result. -/
theorem runC_y  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : ¬cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (s0 : Vec F S32x32768 .f32) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).1 = yPieces (k0_pay41 (k0_pay33 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay31 16).1)) (k0_pay42 (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))) (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay31 16).1 (harg9.unread x8) (arg13.view.writes (Elt F) (harg13.unread s0) (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay31 16).2) (k0_pay34, k0_pay35) 16).1) (k0_pay43 (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))) (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay31 16).1 (harg9.unread x8) (arg13.view.writes (Elt F) (harg13.unread s0) (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay31 16).2) (k0_pay34, k0_pay35) 16).2) (k0_pay44 (k0_pay38 (arg3.view.readAt (Elt F) (Rect.unit (s := S1x32x256) ![0, 0, 0] S1x32x256.size inb_S1x32x256_S1x32x256_0_0_0).toLoadRect (harg3.unread x2))) (rowOf (k0_pay4 (k0_pay3 (arg4.view.readAt (Elt F) (Rect.unit (s := S64x256) ![0, 0] S64x256.size inb_S64x256_S64x256_0_0).toLoadRect (harg4.unread x3)) (arg6.view.readAt (Elt F) (Rect.unit (s := S1x256) ![0, 0] S1x256.size inb_S1x256_S1x256_0_0).toLoadRect (harg6.unread x5)) (arg6.view.readAt (Elt F) (Rect.unit (s := S1x256) ![0, 0] S1x256.size inb_S1x256_S1x256_0_0).toLoadRect (harg6.unread x5)))) i)) (rowOf (k0_pay37 (k0_pay6 (arg5.view.readAt (Elt F) (Rect.unit (s := S64x256) ![0, 0] S64x256.size inb_S64x256_S64x256_0_0).toLoadRect (harg5.unread x4)) (arg7.view.readAt (Elt F) (Rect.unit (s := S1x256) ![0, 0] S1x256.size inb_S1x256_S1x256_0_0).toLoadRect (harg7.unread x6))) (arg7.view.readAt (Elt F) (Rect.unit (s := S1x256) ![0, 0] S1x256.size inb_S1x256_S1x256_0_0).toLoadRect (harg7.unread x6))) i) := by
  unfold runC
  simp only [runC.sl.v97, runC.sl.v98, runC.sl.v99, runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.HS3_1, runC.sl.HS4_1, runC.sl.HS5_1, runC.sl.r_14, runC.sl.r_15, runC.sl.v102, runC.sl.v121, runC.sl.HS1_1, runC.sl.HS2_1, runC.sl.H10_1, runC.sl.H11_1, sixteen, whole_S32x1, whole_S32x256, part_S64x256]
  rfl

/-- What this run stores into one of its whole arrays. -/
theorem runC_kc  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : ¬cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (s0 : Vec F S32x32768 .f32) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.1 = [⟨(Rect.unit (s := S64x256) ![0, 0] S64x256.size inb_S64x256_S64x256_0_0), (k0_pay2 (arg4.view.readAt (Elt F) (Rect.unit (s := S64x256) ![0, 0] S64x256.size inb_S64x256_S64x256_0_0).toLoadRect (harg4.unread x3)) (arg6.view.readAt (Elt F) (Rect.unit (s := S1x256) ![0, 0] S1x256.size inb_S1x256_S1x256_0_0).toLoadRect (harg6.unread x5)))⟩] := by
  unfold runC; dsimp only
  rfl

/-- What this run stores into one of its whole arrays. -/
theorem runC_vc  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : ¬cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (s0 : Vec F S32x32768 .f32) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.1 = [⟨(Rect.unit (s := S64x256) ![0, 0] S64x256.size inb_S64x256_S64x256_0_0), (k0_pay5 (arg5.view.readAt (Elt F) (Rect.unit (s := S64x256) ![0, 0] S64x256.size inb_S64x256_S64x256_0_0).toLoadRect (harg5.unread x4)) (arg7.view.readAt (Elt F) (Rect.unit (s := S1x256) ![0, 0] S1x256.size inb_S1x256_S1x256_0_0).toLoadRect (harg7.unread x6)))⟩] := by
  unfold runC; dsimp only
  rfl

/-- What this run stores into one of its whole arrays. -/
theorem runC_kd  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : ¬cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (s0 : Vec F S32x32768 .f32) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.2.1 = [⟨(Rect.unit (s := S64x256) ![0, 0] S64x256.size inb_S64x256_S64x256_0_0), (k0_pay4 (k0_pay3 (arg4.view.readAt (Elt F) (Rect.unit (s := S64x256) ![0, 0] S64x256.size inb_S64x256_S64x256_0_0).toLoadRect (harg4.unread x3)) (arg6.view.readAt (Elt F) (Rect.unit (s := S1x256) ![0, 0] S1x256.size inb_S1x256_S1x256_0_0).toLoadRect (harg6.unread x5)) (arg6.view.readAt (Elt F) (Rect.unit (s := S1x256) ![0, 0] S1x256.size inb_S1x256_S1x256_0_0).toLoadRect (harg6.unread x5))))⟩] := by
  unfold runC; dsimp only
  rfl

/-- What this run stores into one of its whole arrays. -/
theorem runC_vd  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : ¬cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (s0 : Vec F S32x32768 .f32) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.2.2.1 = [⟨(Rect.unit (s := S64x256) ![0, 0] S64x256.size inb_S64x256_S64x256_0_0), (k0_pay37 (k0_pay6 (arg5.view.readAt (Elt F) (Rect.unit (s := S64x256) ![0, 0] S64x256.size inb_S64x256_S64x256_0_0).toLoadRect (harg5.unread x4)) (arg7.view.readAt (Elt F) (Rect.unit (s := S1x256) ![0, 0] S1x256.size inb_S1x256_S1x256_0_0).toLoadRect (harg7.unread x6))) (arg7.view.readAt (Elt F) (Rect.unit (s := S1x256) ![0, 0] S1x256.size inb_S1x256_S1x256_0_0).toLoadRect (harg7.unread x6)))⟩] := by
  unfold runC; dsimp only
  rfl

end Cert.KernelIdeal.Gen

end
-- ==== Proof.RunF.lean ====
/- One run of the kernel's body: a later grid point, foldable scales. -/
module

public import proofs.«01_k».proof.Proof.Conditions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a later grid point, when every scale is a power of two that can be folded into the queries. From the inputs' blocks it leaves the inputs as they were, the attention result stored, and the codes and the dequantised rows as they were,
    and its other buffers at something. What it stores in a buffer is the list of pieces that this definition carries.  -/
def runF (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : ¬cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : ¬cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (y10 : Vec F S64x256 .fp8e4m3) (y11 : Vec F S64x256 .fp8e4m3) (kd : Vec F S64x256 .f32) (vd : Vec F S64x256 .f32)
    (s0 : Vec F S32x32768 .f32) :
    { L9 : List (View.Piece (Elt F) S1x32x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare y10 ∗ owns (c : Thread nD τ) arg12 fullShare y11 ∗ owns (c : Thread nD τ) arg13 fullShare s0 ∗ owns (c : Thread nD τ) arg14 fullShare kd ∗ owns (c : Thread nD τ) arg15 fullShare vd ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare y10 ∗ owns (c : Thread nD τ) arg12 fullShare y11 ∗ (∃ d, owns (c : Thread nD τ) arg13 fullShare d) ∗ owns (c : Thread nD τ) arg14 fullShare kd ∗ owns (c : Thread nD τ) arg15 fullShare vd ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
    refine ⟨?_, fun E K => ?run⟩
    case run =>
      simp only [cc0_gqa_decode_fp8_eq_skeleton]; unfold cc0_gqa_decode_fp8_skel
      simp only [k0_part7_eq_skeleton, k0_part8_eq_skeleton, k0_part9_eq_skeleton, k0_part3_eq_skeleton, k0_part10_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg11.eq_unread hf10; obtain rfl := harg12.eq_unread hf11; obtain rfl := harg14.eq_unread hfs1; obtain rfl := harg15.eq_unread hfs2
      sl_exec (disch := first | sl_exact hc0 | sl_exact hc1 | sl_exact hc2)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; iexact H9
      isplitl [H10]
      · iexists _; isplitr; · ipureintro; exact harg11.read_unread _
        iexact H10
      isplitl [H11]
      · iexists _; isplitr; · ipureintro; exact harg12.read_unread _
        iexact H11
      isplitl [HS0]
      · iexists _, _; isplitr; swap; · iexact HS0
        ipureintro; rfl
      isplitl [HS1]
      · iexists _; isplitr; · ipureintro; exact harg14.read_unread _
        iexact HS1
      isplitl [HS2]
      · iexists _; isplitr; · ipureintro; exact harg15.read_unread _
        iexact HS2
      isplitl [HS3]
      · iexists _, _; isplitr; swap; · iexact HS3
        ipureintro; rfl
      isplitl [HS4]
      · iexists _, _; isplitr; swap; · iexact HS4
        ipureintro; rfl
      iexists _, _; isplitr; swap; · iexact HS5
      ipureintro; rfl

end Cert.KernelIdeal.Gen

end
-- ==== Proof.StoresF.lean ====
/- The stores of one run of the kernel's body: a later grid point, foldable scales. -/
module

public import proofs.«01_k».proof.Proof.RunF
public import proofs.«01_k».proof.Proof.Output
public import proofs.«01_k».proof.Proof.Conditions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What this run stores into the block of the result. -/
theorem runF_y  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : ¬cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : ¬cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (y10 : Vec F S64x256 .fp8e4m3) (y11 : Vec F S64x256 .fp8e4m3) (kd : Vec F S64x256 .f32) (vd : Vec F S64x256 .f32)
    (s0 : Vec F S32x32768 .f32) :
    (runF (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 y10 y11 kd vd s0).1 = yPieces (k0_pay19 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay7 16).1) (k0_pay39 (k0_pay17 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay7 16).1 (harg9.unread x8) (arg13.view.writes (Elt F) (harg13.unread s0) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay7 16).2) (k0_pay12, k0_pay13) 16).1)) (k0_pay40 (k0_pay18 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay7 16).1 (harg9.unread x8) (arg13.view.writes (Elt F) (harg13.unread s0) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay7 16).2) (k0_pay12, k0_pay13) 16).2 (arg7.view.readAt (Elt F) (Rect.unit (s := S1x256) ![0, 0] S1x256.size inb_S1x256_S1x256_0_0).toLoadRect (harg7.unread x6)))) (k0_pay44 (k0_pay38 (arg3.view.readAt (Elt F) (Rect.unit (s := S1x32x256) ![0, 0, 0] S1x32x256.size inb_S1x32x256_S1x32x256_0_0_0).toLoadRect (harg3.unread x2))) (arg14.view.readAt (Elt F) (Rect.unit (s := S64x256) (k0_off9 i) S1x256.size (k0_off9_inb i)).toLoadRect (harg14.unread kd))) (arg15.view.readAt (Elt F) (Rect.unit (s := S64x256) (k0_off9 i) S1x256.size (k0_off9_inb i)).toLoadRect (harg15.unread vd)) := by
  unfold runF
  simp only [runF.sl.v97, runF.sl.v98, runF.sl.v99, runF.sl.r, runF.sl.r_1, runF.sl.r_2, runF.sl.r_3, runF.sl.r_4, runF.sl.r_5, runF.sl.r_6, runF.sl.r_7, runF.sl.r_8, runF.sl.r_9, runF.sl.r_10, runF.sl.r_11, runF.sl.r_12, runF.sl.r_13, runF.sl.HS3_1, runF.sl.HS4_1, runF.sl.HS5_1, sixteen, whole_S32x1, whole_S32x256, part_S64x256]
  rfl

end Cert.KernelIdeal.Gen

end
-- ==== Proof.RunG.lean ====
/- One run of the kernel's body: a later grid point, other scales. -/
module

public import proofs.«01_k».proof.Proof.Conditions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a later grid point, when some scale is no such power of two. From the inputs' blocks it leaves the inputs as they were, the attention result stored, and the codes and the dequantised rows as they were,
    and its other buffers at something. What it stores in a buffer is the list of pieces that this definition carries.  -/
def runG (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : ¬cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : ¬cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (y10 : Vec F S64x256 .fp8e4m3) (y11 : Vec F S64x256 .fp8e4m3) (kd : Vec F S64x256 .f32) (vd : Vec F S64x256 .f32)
    (s0 : Vec F S32x32768 .f32) :
    { L9 : List (View.Piece (Elt F) S1x32x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare y10 ∗ owns (c : Thread nD τ) arg12 fullShare y11 ∗ owns (c : Thread nD τ) arg13 fullShare s0 ∗ owns (c : Thread nD τ) arg14 fullShare kd ∗ owns (c : Thread nD τ) arg15 fullShare vd ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare y10 ∗ owns (c : Thread nD τ) arg12 fullShare y11 ∗ (∃ d, owns (c : Thread nD τ) arg13 fullShare d) ∗ owns (c : Thread nD τ) arg14 fullShare kd ∗ owns (c : Thread nD τ) arg15 fullShare vd ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_gqa_decode_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
    refine ⟨?_, fun E K => ?run⟩
    case run =>
      simp only [cc0_gqa_decode_fp8_eq_skeleton]; unfold cc0_gqa_decode_fp8_skel
      simp only [k0_part7_eq_skeleton, k0_part8_eq_skeleton, k0_part9_eq_skeleton, k0_part6_eq_skeleton, k0_part10_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0; obtain rfl := harg11.eq_unread hf10; obtain rfl := harg12.eq_unread hf11; obtain rfl := harg14.eq_unread hfs1; obtain rfl := harg15.eq_unread hfs2
      sl_exec (disch := first | sl_exact hc0 | sl_exact hc1 | sl_exact hc2)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; iexact H9
      isplitl [H10]
      · iexists _; isplitr; · ipureintro; exact harg11.read_unread _
        iexact H10
      isplitl [H11]
      · iexists _; isplitr; · ipureintro; exact harg12.read_unread _
        iexact H11
      isplitl [HS0]
      · iexists _, _; isplitr; swap; · iexact HS0
        ipureintro; rfl
      isplitl [HS1]
      · iexists _; isplitr; · ipureintro; exact harg14.read_unread _
        iexact HS1
      isplitl [HS2]
      · iexists _; isplitr; · ipureintro; exact harg15.read_unread _
        iexact HS2
      isplitl [HS3]
      · iexists _, _; isplitr; swap; · iexact HS3
        ipureintro; rfl
      isplitl [HS4]
      · iexists _, _; isplitr; swap; · iexact HS4
        ipureintro; rfl
      iexists _, _; isplitr; swap; · iexact HS5
      ipureintro; rfl

end Cert.KernelIdeal.Gen

end
-- ==== Proof.StoresG.lean ====
/- The stores of one run of the kernel's body: a later grid point, other scales. -/
module

public import proofs.«01_k».proof.Proof.RunG
public import proofs.«01_k».proof.Proof.Output
public import proofs.«01_k».proof.Proof.Conditions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What this run stores into the block of the result. -/
theorem runG_y  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : ¬cond0_0 i)
    (x0 : Vec F S4 .i32) (x1 : Vec F S4 .i32) (x2 : Vec F S1x32x256 .bf16) (x3 : Vec F S64x256 .bf16) (x4 : Vec F S64x256 .bf16) (x5 : Vec F S1x256 .i32) (x6 : Vec F S1x256 .i32) (x7 : Vec F S1x256x32768 .fp8e4m3) (x8 : Vec F S1x256x32768 .fp8e4m3) (hc1 : ¬cond0_1 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos)))) (hc2 : cond0_2 i (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))))
    (y10 : Vec F S64x256 .fp8e4m3) (y11 : Vec F S64x256 .fp8e4m3) (kd : Vec F S64x256 .f32) (vd : Vec F S64x256 .f32)
    (s0 : Vec F S32x32768 .f32) :
    (runG (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 y10 y11 kd vd s0).1 = yPieces (k0_pay41 (k0_pay33 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay31 16).1)) (k0_pay42 (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))) (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay31 16).1 (harg9.unread x8) (arg13.view.writes (Elt F) (harg13.unread s0) (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay31 16).2) (k0_pay34, k0_pay35) 16).1) (k0_pay43 (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg2.view.readAt (Elt F) (Rect.unit (s := S4) ![0] S1.size inb_S4_S1_0).toLoadRect (harg2.unread x1) (Shape.Idx.first (numel1_S1.symm ▸ Nat.one_pos))) (arg2.view.readAt (Elt F) (Rect.unit (s := S4) ![1] S1.size inb_S4_S1_1).toLoadRect (harg2.unread x1) (Shape.Idx.first (numel1_S1.symm ▸ Nat.one_pos))) (arg2.view.readAt (Elt F) (Rect.unit (s := S4) ![2] S1.size inb_S4_S1_2).toLoadRect (harg2.unread x1) (Shape.Idx.first (numel1_S1.symm ▸ Nat.one_pos))) (arg2.view.readAt (Elt F) (Rect.unit (s := S4) ![3] S1.size inb_S4_S1_3).toLoadRect (harg2.unread x1) (Shape.Idx.first (numel1_S1.symm ▸ Nat.one_pos))) (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay31 16).1 (harg9.unread x8) (arg13.view.writes (Elt F) (harg13.unread s0) (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 (arg3.view.readAt (Elt F) (Rect.unit (s := S1x32x256) ![0, 0, 0] S1x32x256.size inb_S1x32x256_S1x32x256_0_0_0).toLoadRect (harg3.unread x2))) (arg1.view.readAt (Elt F) (Rect.unit (s := S4) ![0] S1.size inb_S4_S1_0).toLoadRect (harg1.unread x0) (Shape.Idx.first (numel1_S1.symm ▸ Nat.one_pos))) (arg1.view.readAt (Elt F) (Rect.unit (s := S4) ![1] S1.size inb_S4_S1_1).toLoadRect (harg1.unread x0) (Shape.Idx.first (numel1_S1.symm ▸ Nat.one_pos))) (arg1.view.readAt (Elt F) (Rect.unit (s := S4) ![2] S1.size inb_S4_S1_2).toLoadRect (harg1.unread x0) (Shape.Idx.first (numel1_S1.symm ▸ Nat.one_pos))) (arg1.view.readAt (Elt F) (Rect.unit (s := S4) ![3] S1.size inb_S4_S1_3).toLoadRect (harg1.unread x0) (Shape.Idx.first (numel1_S1.symm ▸ Nat.one_pos))) (harg8.unread x7) k0_pay31 16).2) (k0_pay34, k0_pay35) 16).2) (k0_pay44 (k0_pay38 (arg3.view.readAt (Elt F) (Rect.unit (s := S1x32x256) ![0, 0, 0] S1x32x256.size inb_S1x32x256_S1x32x256_0_0_0).toLoadRect (harg3.unread x2))) (arg14.view.readAt (Elt F) (Rect.unit (s := S64x256) (k0_off9 i) S1x256.size (k0_off9_inb i)).toLoadRect (harg14.unread kd))) (arg15.view.readAt (Elt F) (Rect.unit (s := S64x256) (k0_off9 i) S1x256.size (k0_off9_inb i)).toLoadRect (harg15.unread vd)) := by
  unfold runG
  simp only [runG.sl.v97, runG.sl.v98, runG.sl.v99, runG.sl.r, runG.sl.r_1, runG.sl.r_2, runG.sl.r_3, runG.sl.r_4, runG.sl.r_5, runG.sl.r_6, runG.sl.r_7, runG.sl.r_8, runG.sl.r_9, runG.sl.r_10, runG.sl.r_11, runG.sl.r_12, runG.sl.r_13, runG.sl.HS3_1, runG.sl.HS4_1, runG.sl.HS5_1, sixteen, whole_S32x1, whole_S32x256, part_S64x256]
  rfl

end Cert.KernelIdeal.Gen

end
-- ==== Proof.Words.lean ====
/- What the kernel's test of the scales' words says of the scales. -/
module

public import proofs.«01_k».proof.Proof.Conditions
public import proofs.«01_k».proof.Proof.Attend

@[expose] public section

set_option maxRecDepth 16384

noncomputable section

namespace Cert.KernelIdeal.Gen

open Idealize.ShloMosaic Idealize.ShloMosaic.TcCoe Idealize.ShloMosaic.Tactic

/-- A bit, widened, is not zero exactly when it is set. -/
theorem bit_ne (b : BitVec 1) : (Scalar.cmpi .ne (Scalar.extui b) 0#32 = 1#1) ↔ b = 1#1 := by revert b; decide

/-- Two bits are both set exactly when their conjunction is. -/
theorem bit_and (a b : BitVec 1) : Scalar.andi a b = 1#1 ↔ a = 1#1 ∧ b = 1#1 := by revert a b; decide

/-- The negation of a bit is set exactly when the bit is not. -/
theorem bit_not (b : BitVec 1) : Scalar.xori b 1#1 = 1#1 ↔ ¬ b = 1#1 := by revert b; decide

/-- The kernel's test of one word: a power of two, positive, with an exponent of at most forty in size. -/
def Folds (w : BitVec 32) : Prop :=
  (Scalar.cmpi .eq (Scalar.andi w 8388607#32) 0#32 = 1#1 ∧ Scalar.cmpi .sgt w 0#32 = 1#1)
    ∧ Scalar.cmpi .sle (Scalar.absi (Scalar.subi (Scalar.shrsi w 23#32) 127#32)) 40#32 = 1#1

/-- The first branch is taken exactly when all eight words pass the test. -/
theorem cond1_iff (i : grid0.Coords) (a b c d e f g h : BitVec 32) :
    cond0_1 i a b c d e f g h ↔ Folds a ∧ Folds b ∧ Folds c ∧ Folds d ∧ Folds e ∧ Folds f ∧ Folds g ∧ Folds h := by
  unfold cond0_1 Folds
  rw [bit_ne]
  simp only [bit_and, and_assoc]

/-- The second branch is taken exactly when the first is not. -/
theorem cond2_iff (i : grid0.Coords) (a b c d e f g h : BitVec 32) :
    cond0_2 i a b c d e f g h ↔ ¬ cond0_1 i a b c d e f g h := by
  unfold cond0_2 cond0_1
  rw [bit_ne, bit_ne, bit_not]

/-- A word that passes the test is the word of a nonnegative real number. -/
theorem Folds.real {w : BitVec 32} (h : Folds w) : ∃ r : ℝ, 0 ≤ r ∧ Ideal.ofBits .f32 w = (r : EReal) := by
  obtain ⟨⟨-, h0⟩, h1⟩ := h
  have hw : w.toNat < 2 ^ 31 := by
    have h0' : (0#32).slt w = true := by
      change BitVec.ofBool ((0#32).slt w) = 1#1 at h0
      cases hb : (0#32).slt w
      · rw [hb] at h0; exact absurd h0 (by decide)
      · rfl
    rw [BitVec.slt, decide_eq_true_eq] at h0'
    have hz : (0#32).toInt = 0 := rfl
    have hc := BitVec.toInt_eq_toNat_cond w
    have hl := w.isLt
    split at hc <;> omega
  have hsgn : (w.extractLsb' 31 1 == 1#1) = false := by
    rw [beq_eq_false_iff_ne]
    intro hh
    have := congrArg BitVec.toNat hh
    simp [BitVec.extractLsb'_toNat, Nat.shiftRight_eq_div_pow] at this
    omega
  have hex : (w.extractLsb' 23 8).toNat ≠ 255 := by
    intro hh
    have hd : w.toNat / 2 ^ 23 = 255 := by
      simp [BitVec.extractLsb'_toNat, Nat.shiftRight_eq_div_pow] at hh
      omega
    have hs : Scalar.shrsi w 23#32 = 255#32 := by
      apply BitVec.eq_of_toNat_eq
      have hm : w.msb = false := by rw [BitVec.msb_eq_decide]; simp; omega
      simp [Scalar.shrsi, IntOp.shrsi, BitVec.sshiftRight', BitVec.sshiftRight_eq_of_msb_false hm, Nat.shiftRight_eq_div_pow]
      omega
    rw [hs] at h1
    revert h1
    decide
  have hex' : ¬ (w.extractLsb' 23 8).toNat = 2 ^ 8 - 1 := by simpa using hex
  show ∃ r : ℝ, 0 ≤ r ∧ Ideal.ieee 8 23 w = (r : EReal)
  unfold Ideal.ieee
  simp only [show (8 + 23 : ℕ) = 31 from rfl, hsgn, if_neg hex', Bool.false_eq_true, if_false, one_mul]
  split
  · exact ⟨_, by positivity, rfl⟩
  · exact ⟨_, by positivity, rfl⟩

end Cert.KernelIdeal.Gen

end
-- ==== Proof.Block.lean ====
/- What one grid point computes: attention of its queries over its part of the cache and its new row. -/
module

public import proofs.«01_k».proof.Proof.Output
public import proofs.«01_k».proof.Proof.Words
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Cert.Attend (attend attend_merge sum_mul_real)

/-- The scale of column `c`'s head. -/
def headScale (w : Vec Ideal S4 .i32) (c : ℕ) : EReal := perHead 64 (w (ix1 0)) (w (ix1 1)) (w (ix1 2)) (w (ix1 3)) c

/-- What a grid point computes in row `r` and column `d` of its block, from its inputs' blocks and its rows of dequantised new keys
    and values. -/
def blockY (ks vs : Vec Ideal S4 .i32) (q : Vec Ideal S1x32x256 .bf16) (kd vd : Vec Ideal S1x256 .f32) (K V : Vec Ideal S1x256x32768 .fp8e4m3)
    (r : Fin 32) (d : Fin 64) : EReal :=
  attend (fun j => (∑ c : Fin 256, q (ix3 0 r c) * (K (ix3 0 c j) * headScale ks c)) * Ideal.ofBits .f32 0x3E000000#32)
    (fun j => V (ix3 0 (col r d) j) * headScale vs (col r d))
    ((∑ c : Fin 256, q (ix3 0 r c) * kd (ix2 0 c)) * Ideal.ofBits .f32 0x3E000000#32)
    (vd (ix2 0 (col r d)))

/-- Every one of the four scales passes the kernel's test. -/
def AllFold (w : Vec Ideal S4 .i32) : Prop := Folds (w (ix1 0)) ∧ Folds (w (ix1 1)) ∧ Folds (w (ix1 2)) ∧ Folds (w (ix1 3))

/-- The head of a row and the head of a column have the same scale when they are the same head. -/
theorem perHead_eq (w0 w1 w2 w3 : BitVec 32) (r : Fin 32) (c : Fin 256) (h : (c : ℕ) / 64 = r / 8) :
    perHead 64 w0 w1 w2 w3 c = perHead 8 w0 w1 w2 w3 r := by
  unfold perHead
  split_ifs <;> first | rfl | (exfalso; omega)

/-- A scale that passes the test is a nonnegative real number. -/
theorem AllFold.real {w : Vec Ideal S4 .i32} (h : AllFold w) (c : ℕ) : ∃ x : ℝ, 0 ≤ x ∧ headScale w c = (x : EReal) := by
  unfold headScale perHead
  split_ifs
  · exact h.1.real
  · exact h.2.1.real
  · exact h.2.2.1.real
  · exact h.2.2.2.real

/-- Where the scales pass the test and a row of queries is zero outside its own head, it does not matter whether the scale is
    multiplied into the codes or into the product. -/
theorem scores_eq (q : Vec Ideal S1x32x256 .bf16) (ks : Vec Ideal S4 .i32) (K : Vec Ideal S1x256x32768 .fp8e4m3)
    (hq : ∀ (r : Fin 32) (c : Fin 256), (c : ℕ) / 64 ≠ r / 8 → q (ix3 0 r c) = 0) (hk : AllFold ks) :
    scoresF (k0_pay38 (F := Ideal) q) (ks (ix1 0)) (ks (ix1 1)) (ks (ix1 2)) (ks (ix1 3)) K
      = scoresG (k0_pay38 (F := Ideal) q) (ks (ix1 0)) (ks (ix1 1)) (ks (ix1 2)) (ks (ix1 3)) K := by
  have key : ∀ (r : Fin 32) (j : Fin 32768),
      (∑ c : Fin 256, k0_pay38 (F := Ideal) q (ix2 r c) * K (ix3 0 c j)) * (perHead 8 (ks (ix1 0)) (ks (ix1 1)) (ks (ix1 2)) (ks (ix1 3)) r * Ideal.ofBits .f32 0x3E000000#32)
        = (∑ c : Fin 256, k0_pay38 (F := Ideal) q (ix2 r c) * (K (ix3 0 c j) * headScale ks c)) * Ideal.ofBits .f32 0x3E000000#32 := by
    intro r j
    obtain ⟨x, hx, hs⟩ := hk.real (64 * ((r : ℕ) / 8))
    have hr : perHead 8 (ks (ix1 0)) (ks (ix1 1)) (ks (ix1 2)) (ks (ix1 3)) r = (x : EReal) := by
      rw [← hs, headScale]
      exact (perHead_eq _ _ _ _ r ⟨64 * ((r : ℕ) / 8), by omega⟩ (by show 64 * ((r : ℕ) / 8) / 64 = _; omega)).symm
    rw [← mul_assoc, hr, sum_mul_real _ _ hx]
    congr 1
    refine Finset.sum_congr rfl fun c _ => ?_
    rw [pay38_at]
    by_cases h : (c : ℕ) / 64 = (r : ℕ) / 8
    · rw [headScale, perHead_eq _ _ _ _ r c h, hr, mul_assoc]
    · rw [hq _ c h, zero_mul, zero_mul, zero_mul]
  funext y
  exact key (y 0) (y 1)

/-- The scores in terms of the queries' block. -/
theorem scoresG_at (q : Vec Ideal S1x32x256 .bf16) (ks : Vec Ideal S4 .i32) (K : Vec Ideal S1x256x32768 .fp8e4m3) (r : Fin 32) (j : Fin 32768) :
    scoresG (k0_pay38 (F := Ideal) q) (ks (ix1 0)) (ks (ix1 1)) (ks (ix1 2)) (ks (ix1 3)) K (ix2 r j)
      = (∑ c : Fin 256, q (ix3 0 r c) * (K (ix3 0 c j) * headScale ks c)) * Ideal.ofBits .f32 0x3E000000#32 := by
  show (∑ c : Fin 256, k0_pay38 (F := Ideal) q (ix2 r c) * (K (ix3 0 c j) * headScale ks c)) * Ideal.ofBits .f32 0x3E000000#32 = _
  simp only [pay38_at]

variable (𝒱 : Variants) (c : Dev nD) (bd : Option 𝒱.V) (i : grid0.Coords)
  {arg1 : Memref sig .tc .smem S4 .i32} (harg1 : arg1.IsWhole) {arg2 : Memref sig .tc .smem S4 .i32} (harg2 : arg2.IsWhole) {arg3 : Memref sig .tc .vmem S1x32x256 .bf16} (harg3 : arg3.IsWhole) {arg4 : Memref sig .tc .vmem S64x256 .bf16} (harg4 : arg4.IsWhole) {arg5 : Memref sig .tc .vmem S64x256 .bf16} (harg5 : arg5.IsWhole) {arg6 : Memref sig .tc .vmem S1x256 .i32} (harg6 : arg6.IsWhole) {arg7 : Memref sig .tc .vmem S1x256 .i32} (harg7 : arg7.IsWhole) {arg8 : Memref sig .tc .vmem S1x256x32768 .fp8e4m3} (harg8 : arg8.IsWhole) {arg9 : Memref sig .tc .vmem S1x256x32768 .fp8e4m3} (harg9 : arg9.IsWhole) {arg10 : Memref sig .tc .vmem S1x32x64 .bf16} (harg10 : arg10.IsWhole) {arg11 : Memref sig .tc .vmem S64x256 .fp8e4m3} (harg11 : arg11.IsWhole) {arg12 : Memref sig .tc .vmem S64x256 .fp8e4m3} (harg12 : arg12.IsWhole) {arg13 : Memref sig .tc .vmem S32x32768 .f32} (harg13 : arg13.IsWhole) {arg14 : Memref sig .tc .vmem S64x256 .f32} (harg14 : arg14.IsWhole) {arg15 : Memref sig .tc .vmem S64x256 .f32} (harg15 : arg15.IsWhole) {arg16 : Memref sig .tc .vmem S32x1 .f32} (harg16 : arg16.IsWhole) {arg17 : Memref sig .tc .vmem S32x1 .f32} (harg17 : arg17.IsWhole) {arg18 : Memref sig .tc .vmem S32x256 .f32} (harg18 : arg18.IsWhole)

/-- The merge of running values that are those of attention over the cached rows is attention over all rows. -/
theorem merged_eq (ks vs : Vec Ideal S4 .i32) (q : Vec Ideal S1x32x256 .bf16) (kd vd : Vec Ideal S1x256 .f32) (K V : Vec Ideal S1x256x32768 .fp8e4m3)
    (M L : FVec Ideal S32x1 .f32) (A : FVec Ideal S32x256 .f32) (r : Fin 32) (d : Fin 64)
    (hM : M (ix2 r 0) = Finset.univ.fold max ⊥ fun j => scoresG (k0_pay38 (F := Ideal) q) (ks (ix1 0)) (ks (ix1 1)) (ks (ix1 2)) (ks (ix1 3)) K (ix2 r j))
    (hL : L (ix2 r 0) = ∑ j, Ideal.exp (scoresG (k0_pay38 (F := Ideal) q) (ks (ix1 0)) (ks (ix1 1)) (ks (ix1 2)) (ks (ix1 3)) K (ix2 r j) - M (ix2 r 0)))
    (hA : A (ix2 r (col r d)) = ∑ j, Ideal.exp (scoresG (k0_pay38 (F := Ideal) q) (ks (ix1 0)) (ks (ix1 1)) (ks (ix1 2)) (ks (ix1 3)) K (ix2 r j) - M (ix2 r 0)) * (V (ix3 0 (col r d) j) * headScale vs (col r d))) :
    merged M L A (k0_pay44 (F := Ideal) (k0_pay38 (F := Ideal) q) kd) vd r (col r d) = blockY ks vs q kd vd K V r d := by
  have hn : newScore (k0_pay44 (F := Ideal) (k0_pay38 (F := Ideal) q) kd) r = (∑ c : Fin 256, q (ix3 0 r c) * kd (ix2 0 c)) * Ideal.ofBits .f32 0x3E000000#32 := by
    unfold newScore; simp only [pay44_at]
  simp only [scoresG_at] at hM hL hA
  unfold merged
  rw [hn]
  exact attend_merge _ _ _ _ _ _ _ hM hL hA

/-- Where the scales are folded into the queries' side, the point computes attention. -/
theorem foldValue (ks vs : Vec Ideal S4 .i32) (q : Vec Ideal S1x32x256 .bf16) (kd vd : Vec Ideal S1x256 .f32) (K V : Vec Ideal S1x256x32768 .fp8e4m3)
    (w : Vec Ideal S1x256 .i32) (f : arg13.view.ty.Contents (Elt Ideal))
    (hq : ∀ (r : Fin 32) (c : Fin 256), (c : ℕ) / 64 ≠ r / 8 → q (ix3 0 r c) = 0) (hk : AllFold ks) (hv : AllFold vs)
    (hw : ∀ c : Fin 256, Ideal.ofBits .f32 (w (ix2 0 c)) = headScale vs c) (r : Fin 32) (d : Fin 64) :
    merged (k0_pay19 (F := Ideal) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (ks (ix1 0)) (ks (ix1 1)) (ks (ix1 2)) (ks (ix1 3)) (harg8.unread K) k0_pay7 16).1) (k0_pay39 (F := Ideal) (k0_pay17 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (ks (ix1 0)) (ks (ix1 1)) (ks (ix1 2)) (ks (ix1 3)) (harg8.unread K) k0_pay7 16).1 (harg9.unread V) (arg13.view.writes (Elt Ideal) f (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (ks (ix1 0)) (ks (ix1 1)) (ks (ix1 2)) (ks (ix1 3)) (harg8.unread K) k0_pay7 16).2) (k0_pay12, k0_pay13) 16).1)) (k0_pay40 (F := Ideal) (k0_pay18 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (ks (ix1 0)) (ks (ix1 1)) (ks (ix1 2)) (ks (ix1 3)) (harg8.unread K) k0_pay7 16).1 (harg9.unread V) (arg13.view.writes (Elt Ideal) f (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (ks (ix1 0)) (ks (ix1 1)) (ks (ix1 2)) (ks (ix1 3)) (harg8.unread K) k0_pay7 16).2) (k0_pay12, k0_pay13) 16).2 w))
        (k0_pay44 (F := Ideal) (k0_pay38 (F := Ideal) q) kd) vd r (col r d)
      = blockY ks vs q kd vd K V r d := by
  obtain ⟨x, hx, hs⟩ := hv.real (col r d)
  refine merged_eq ks vs q kd vd K V _ _ _ r d ?_ ?_ ?_
  · rw [pay19_at, max1, scores_eq q ks K hq hk]
  · rw [pay39_at, scores1, sum2, pay19_at, scores_eq q ks K hq hk]
  · rw [pay40_at, scores1, acc2, pay19_at, hw, hs, sum_mul_real _ _ hx, scores_eq q ks K hq hk]
    exact Finset.sum_congr rfl fun j _ => mul_assoc _ _ _

/-- Where the scales are multiplied into the codes, the point computes attention too. -/
theorem wideValue (ks vs : Vec Ideal S4 .i32) (q : Vec Ideal S1x32x256 .bf16) (kd vd : Vec Ideal S1x256 .f32) (K V : Vec Ideal S1x256x32768 .fp8e4m3)
    (f : arg13.view.ty.Contents (Elt Ideal)) (r : Fin 32) (d : Fin 64) :
    merged (k0_pay41 (F := Ideal) (k0_pay33 (F := Ideal) (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (ks (ix1 0)) (ks (ix1 1)) (ks (ix1 2)) (ks (ix1 3)) (harg8.unread K) k0_pay31 16).1)) (k0_pay42 (F := Ideal) (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (vs (ix1 0)) (vs (ix1 1)) (vs (ix1 2)) (vs (ix1 3)) (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (ks (ix1 0)) (ks (ix1 1)) (ks (ix1 2)) (ks (ix1 3)) (harg8.unread K) k0_pay31 16).1 (harg9.unread V) (arg13.view.writes (Elt Ideal) f (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (ks (ix1 0)) (ks (ix1 1)) (ks (ix1 2)) (ks (ix1 3)) (harg8.unread K) k0_pay31 16).2) (k0_pay34, k0_pay35) 16).1) (k0_pay43 (F := Ideal) (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (vs (ix1 0)) (vs (ix1 1)) (vs (ix1 2)) (vs (ix1 3)) (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (ks (ix1 0)) (ks (ix1 1)) (ks (ix1 2)) (ks (ix1 3)) (harg8.unread K) k0_pay31 16).1 (harg9.unread V) (arg13.view.writes (Elt Ideal) f (st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k0_pay38 q) (ks (ix1 0)) (ks (ix1 1)) (ks (ix1 2)) (ks (ix1 3)) (harg8.unread K) k0_pay31 16).2) (k0_pay34, k0_pay35) 16).2)
        (k0_pay44 (F := Ideal) (k0_pay38 (F := Ideal) q) kd) vd r (col r d)
      = blockY ks vs q kd vd K V r d := by
  refine merged_eq ks vs q kd vd K V _ _ _ r d ?_ ?_ ?_
  · rw [pay41_at, max3]
  · rw [pay42_at, scores3, sum4, pay41_at]
  · rw [pay43_at, scores3, acc4, pay41_at]; rfl

end Cert.KernelIdeal.Gen

end
-- ==== Proof.RunValues.lean ====
/- What each of the runs leaves in the arrays it writes, over the extended reals. -/
module

public import proofs.«01_k».proof.Proof.StoresB
public import proofs.«01_k».proof.Proof.StoresC
public import proofs.«01_k».proof.Proof.StoresF
public import proofs.«01_k».proof.Proof.StoresG
public import proofs.«01_k».proof.Proof.Block

@[expose] public section

set_option maxRecDepth 16384

noncomputable section

namespace Cert.KernelIdeal.Gen

open Idealize.ShloMosaic Idealize.ShloMosaic.TcCoe Idealize.ShloMosaic.Tactic

/-- A load of the whole of a memref reads what the memref holds. -/
theorem read_whole {κ : Kind} {sp : Space} {S : Shape} {e : EltTy} {m : Memref sig κ sp S e} (h : m.IsWhole) (X : S.Idx → Elt Ideal e)
    {off : Fin S.rank → ℕ} (hz : off = fun _ => 0) (inb : ∀ a, off a + S.size a ≤ S.size a) :
    m.view.readAt (Elt Ideal) (Rect.unit (s := S) off S.size inb).toLoadRect (h.unread X) = X := by
  funext x
  rw [h.readAt_unread]
  exact congrFun (View.ld_unit_zero hz inb X) x

/-- A load of one of the four words reads that word. -/
theorem read_word {m : Memref sig .tc .smem S4 .i32} (h : m.IsWhole) (X : Vec Ideal S4 .i32) (k : ℕ) (hk : k < 4) (inb : ∀ a, (![k] : Fin 1 → ℕ) a + S1.size a ≤ S4.size a) (n : 0 < S1.numel) :
    m.view.readAt (Elt Ideal) (Rect.unit (s := S4) ![k] S1.size inb).toLoadRect (h.unread X) (Shape.Idx.first n) = X (ix1 ⟨k, hk⟩) := by
  rw [h.readAt_unread]
  refine congrArg X (funext fun a => ?_)
  match a with
  | ⟨0, _⟩ => exact Fin.ext (by show k + 1 * 0 = k; omega)

theorem read_word0 {m : Memref sig .tc .smem S4 .i32} (h : m.IsWhole) (X : Vec Ideal S4 .i32) :
    m.view.readAt (Elt Ideal) (Rect.unit (s := S4) ![0] S1.size inb_S4_S1_0).toLoadRect (h.unread X) (Shape.Idx.first (numel1_S1.symm ▸ Nat.one_pos)) = X (ix1 0) :=
  read_word h X 0 (by decide) _ _

theorem read_word1 {m : Memref sig .tc .smem S4 .i32} (h : m.IsWhole) (X : Vec Ideal S4 .i32) :
    m.view.readAt (Elt Ideal) (Rect.unit (s := S4) ![1] S1.size inb_S4_S1_1).toLoadRect (h.unread X) (Shape.Idx.first (numel1_S1.symm ▸ Nat.one_pos)) = X (ix1 1) :=
  read_word h X 1 (by decide) _ _

theorem read_word2 {m : Memref sig .tc .smem S4 .i32} (h : m.IsWhole) (X : Vec Ideal S4 .i32) :
    m.view.readAt (Elt Ideal) (Rect.unit (s := S4) ![2] S1.size inb_S4_S1_2).toLoadRect (h.unread X) (Shape.Idx.first (numel1_S1.symm ▸ Nat.one_pos)) = X (ix1 2) :=
  read_word h X 2 (by decide) _ _

theorem read_word3 {m : Memref sig .tc .smem S4 .i32} (h : m.IsWhole) (X : Vec Ideal S4 .i32) :
    m.view.readAt (Elt Ideal) (Rect.unit (s := S4) ![3] S1.size inb_S4_S1_3).toLoadRect (h.unread X) (Shape.Idx.first (numel1_S1.symm ▸ Nat.one_pos)) = X (ix1 3) :=
  read_word h X 3 (by decide) _ _

/-- A load of a grid point's row reads that row. -/
theorem read_row {m : Memref sig .tc .vmem S64x256 .f32} (h : m.IsWhole) (X : Vec Ideal S64x256 .f32) (i : grid0.Coords) :
    m.view.readAt (Elt Ideal) (Rect.unit (s := S64x256) (k0_off9 i) S1x256.size (k0_off9_inb i)).toLoadRect (h.unread X) = rowOf X i := by
  funext x
  rw [h.readAt_unread]; rfl

/-- The first branch is taken exactly when all the scales pass the test. -/
theorem allFold_iff (i : grid0.Coords) (ks vs : Vec Ideal S4 .i32) :
    cond0_1 i (ks (ix1 0)) (ks (ix1 1)) (ks (ix1 2)) (ks (ix1 3)) (vs (ix1 0)) (vs (ix1 1)) (vs (ix1 2)) (vs (ix1 3)) ↔ AllFold ks ∧ AllFold vs := by
  rw [cond1_iff]; unfold AllFold; simp only [and_assoc]

/-- The dequantised new keys. -/
def newK (x3 : Vec Ideal S64x256 .bf16) (x5 : Vec Ideal S1x256 .i32) : Vec Ideal S64x256 .f32 := k0_pay4 (k0_pay3 x3 x5 x5)

/-- The dequantised new values. -/
def newV (x4 : Vec Ideal S64x256 .bf16) (x6 : Vec Ideal S1x256 .i32) : Vec Ideal S64x256 .f32 := k0_pay37 (k0_pay6 x4 x6) x6

theorem z2 : (![0, 0] : Fin 2 → ℕ) = fun _ => 0 := by decide

theorem z3 : (![0, 0, 0] : Fin 3 → ℕ) = fun _ => 0 := by decide

/-- This run's block of the result is attention of its inputs' blocks. -/
theorem runB_value  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : ¬cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) (hq : ∀ (r : Fin 32) (c : Fin 256), (c : ℕ) / 64 ≠ r / 8 → x2 (ix3 0 r c) = 0) (hw : ∀ c : Fin 256, Ideal.ofBits .f32 (x6 (ix2 0 c)) = headScale x1 c) :
    View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).1 = fun y => blockY x0 x1 x2 (rowOf (newK x3 x5) i) (rowOf (newV x4 x6) i) x7 x8 (y 1) (y 2) := by
  have hf := hc1
  rw [read_word0 harg1 x0, read_word1 harg1 x0, read_word2 harg1 x0, read_word3 harg1 x0, read_word0 harg2 x1, read_word1 harg2 x1, read_word2 harg2 x1, read_word3 harg2 x1] at hf
  have hf := (allFold_iff i x0 x1).1 hf
  funext y
  rw [runB_y, canon_yPieces, read_word0 harg1 x0, read_word1 harg1 x0, read_word2 harg1 x0, read_word3 harg1 x0, read_whole harg3 x2 z3 inb_S1x32x256_S1x32x256_0_0_0, read_whole harg4 x3 z2 inb_S64x256_S64x256_0_0, read_whole harg5 x4 z2 inb_S64x256_S64x256_0_0, read_whole harg6 x5 z2 inb_S1x256_S1x256_0_0, read_whole harg7 x6 z2 inb_S1x256_S1x256_0_0]
  exact foldValue Variants.none c none i harg1 harg2 harg3 harg4 harg5 harg6 harg7 harg8 harg9 harg10 harg11 harg12 harg13 harg14 harg15 harg16 harg17 harg18 x0 x1 x2 (rowOf (newK x3 x5) i) (rowOf (newV x4 x6) i) x7 x8 x6 _ hq hf.1 hf.2 hw (y 1) (y 2)

theorem runB_cover  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : ¬cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) (y : S1x32x64.Idx) : ∃ p ∈ (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).1, y ∈ p.1.set := by
  rw [runB_y]; exact yPieces_cover _ _ _ _ _ y

theorem runB_kc_value  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : ¬cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) : View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.1 = k0_pay2 (F := Ideal) x3 x5 := by
  rw [runB_kc, View.canon_unit_zero z2, read_whole harg4 x3 z2 inb_S64x256_S64x256_0_0, read_whole harg6 x5 z2 inb_S1x256_S1x256_0_0]

theorem runB_kc_cover  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : ¬cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) (y : S64x256.Idx) : ∃ p ∈ (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.1, y ∈ p.1.set := by
  rw [runB_kc]; exact ⟨_, List.mem_singleton_self _, View.mem_set_unit_zero z2 inb_S64x256_S64x256_0_0 y⟩

theorem runB_vc_value  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : ¬cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) : View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.1 = k0_pay5 (F := Ideal) x4 x6 := by
  rw [runB_vc, View.canon_unit_zero z2, read_whole harg5 x4 z2 inb_S64x256_S64x256_0_0, read_whole harg7 x6 z2 inb_S1x256_S1x256_0_0]

theorem runB_vc_cover  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : ¬cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) (y : S64x256.Idx) : ∃ p ∈ (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.1, y ∈ p.1.set := by
  rw [runB_vc]; exact ⟨_, List.mem_singleton_self _, View.mem_set_unit_zero z2 inb_S64x256_S64x256_0_0 y⟩

theorem runB_kd_value  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : ¬cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) : View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.2.1 = newK x3 x5 := by
  rw [runB_kd, View.canon_unit_zero z2, read_whole harg4 x3 z2 inb_S64x256_S64x256_0_0, read_whole harg6 x5 z2 inb_S1x256_S1x256_0_0]; rfl

theorem runB_kd_cover  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : ¬cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) (y : S64x256.Idx) : ∃ p ∈ (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.2.1, y ∈ p.1.set := by
  rw [runB_kd]; exact ⟨_, List.mem_singleton_self _, View.mem_set_unit_zero z2 inb_S64x256_S64x256_0_0 y⟩

theorem runB_vd_value  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : ¬cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) : View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.2.2.1 = newV x4 x6 := by
  rw [runB_vd, View.canon_unit_zero z2, read_whole harg5 x4 z2 inb_S64x256_S64x256_0_0, read_whole harg7 x6 z2 inb_S1x256_S1x256_0_0]; rfl

theorem runB_vd_cover  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : ¬cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) (y : S64x256.Idx) : ∃ p ∈ (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.2.2.1, y ∈ p.1.set := by
  rw [runB_vd]; exact ⟨_, List.mem_singleton_self _, View.mem_set_unit_zero z2 inb_S64x256_S64x256_0_0 y⟩

/-- This run's block of the result is attention of its inputs' blocks. -/
theorem runC_value  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : ¬cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) :
    View.canon (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).1 = fun y => blockY x0 x1 x2 (rowOf (newK x3 x5) i) (rowOf (newV x4 x6) i) x7 x8 (y 1) (y 2) := by
  funext y
  rw [runC_y, canon_yPieces, read_word0 harg1 x0, read_word1 harg1 x0, read_word2 harg1 x0, read_word3 harg1 x0, read_word0 harg2 x1, read_word1 harg2 x1, read_word2 harg2 x1, read_word3 harg2 x1, read_whole harg3 x2 z3 inb_S1x32x256_S1x32x256_0_0_0, read_whole harg4 x3 z2 inb_S64x256_S64x256_0_0, read_whole harg5 x4 z2 inb_S64x256_S64x256_0_0, read_whole harg6 x5 z2 inb_S1x256_S1x256_0_0, read_whole harg7 x6 z2 inb_S1x256_S1x256_0_0]
  exact wideValue Variants.none c none i harg1 harg2 harg3 harg4 harg5 harg6 harg7 harg8 harg9 harg10 harg11 harg12 harg13 harg14 harg15 harg16 harg17 harg18 x0 x1 x2 (rowOf (newK x3 x5) i) (rowOf (newV x4 x6) i) x7 x8 _ (y 1) (y 2)

theorem runC_cover  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : ¬cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) (y : S1x32x64.Idx) : ∃ p ∈ (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).1, y ∈ p.1.set := by
  rw [runC_y]; exact yPieces_cover _ _ _ _ _ y

theorem runC_kc_value  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : ¬cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) : View.canon (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.1 = k0_pay2 (F := Ideal) x3 x5 := by
  rw [runC_kc, View.canon_unit_zero z2, read_whole harg4 x3 z2 inb_S64x256_S64x256_0_0, read_whole harg6 x5 z2 inb_S1x256_S1x256_0_0]

theorem runC_kc_cover  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : ¬cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) (y : S64x256.Idx) : ∃ p ∈ (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.1, y ∈ p.1.set := by
  rw [runC_kc]; exact ⟨_, List.mem_singleton_self _, View.mem_set_unit_zero z2 inb_S64x256_S64x256_0_0 y⟩

theorem runC_vc_value  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : ¬cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) : View.canon (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.1 = k0_pay5 (F := Ideal) x4 x6 := by
  rw [runC_vc, View.canon_unit_zero z2, read_whole harg5 x4 z2 inb_S64x256_S64x256_0_0, read_whole harg7 x6 z2 inb_S1x256_S1x256_0_0]

theorem runC_vc_cover  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : ¬cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) (y : S64x256.Idx) : ∃ p ∈ (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.1, y ∈ p.1.set := by
  rw [runC_vc]; exact ⟨_, List.mem_singleton_self _, View.mem_set_unit_zero z2 inb_S64x256_S64x256_0_0 y⟩

theorem runC_kd_value  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : ¬cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) : View.canon (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.2.1 = newK x3 x5 := by
  rw [runC_kd, View.canon_unit_zero z2, read_whole harg4 x3 z2 inb_S64x256_S64x256_0_0, read_whole harg6 x5 z2 inb_S1x256_S1x256_0_0]; rfl

theorem runC_kd_cover  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : ¬cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) (y : S64x256.Idx) : ∃ p ∈ (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.2.1, y ∈ p.1.set := by
  rw [runC_kd]; exact ⟨_, List.mem_singleton_self _, View.mem_set_unit_zero z2 inb_S64x256_S64x256_0_0 y⟩

theorem runC_vd_value  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : ¬cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) : View.canon (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.2.2.1 = newV x4 x6 := by
  rw [runC_vd, View.canon_unit_zero z2, read_whole harg5 x4 z2 inb_S64x256_S64x256_0_0, read_whole harg7 x6 z2 inb_S1x256_S1x256_0_0]; rfl

theorem runC_vd_cover  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : ¬cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (s0 : Vec Ideal S32x32768 .f32) (y : S64x256.Idx) : ∃ p ∈ (runC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 s0).2.2.2.2.1, y ∈ p.1.set := by
  rw [runC_vd]; exact ⟨_, List.mem_singleton_self _, View.mem_set_unit_zero z2 inb_S64x256_S64x256_0_0 y⟩

/-- This run's block of the result is attention of its inputs' blocks. -/
theorem runF_value  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : ¬cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : ¬cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (y10 : Vec Ideal S64x256 .fp8e4m3) (y11 : Vec Ideal S64x256 .fp8e4m3) (kd : Vec Ideal S64x256 .f32) (vd : Vec Ideal S64x256 .f32)
    (s0 : Vec Ideal S32x32768 .f32) (hq : ∀ (r : Fin 32) (c : Fin 256), (c : ℕ) / 64 ≠ r / 8 → x2 (ix3 0 r c) = 0) (hw : ∀ c : Fin 256, Ideal.ofBits .f32 (x6 (ix2 0 c)) = headScale x1 c) :
    View.canon (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 y10 y11 kd vd s0).1 = fun y => blockY x0 x1 x2 (rowOf kd i) (rowOf vd i) x7 x8 (y 1) (y 2) := by
  have hf := hc1
  rw [read_word0 harg1 x0, read_word1 harg1 x0, read_word2 harg1 x0, read_word3 harg1 x0, read_word0 harg2 x1, read_word1 harg2 x1, read_word2 harg2 x1, read_word3 harg2 x1] at hf
  have hf := (allFold_iff i x0 x1).1 hf
  funext y
  rw [runF_y, canon_yPieces, read_word0 harg1 x0, read_word1 harg1 x0, read_word2 harg1 x0, read_word3 harg1 x0, read_whole harg3 x2 z3 inb_S1x32x256_S1x32x256_0_0_0, read_row harg14 kd i, read_row harg15 vd i, read_whole harg7 x6 z2 inb_S1x256_S1x256_0_0]
  exact foldValue Variants.none c none i harg1 harg2 harg3 harg4 harg5 harg6 harg7 harg8 harg9 harg10 harg11 harg12 harg13 harg14 harg15 harg16 harg17 harg18 x0 x1 x2 (rowOf kd i) (rowOf vd i) x7 x8 x6 _ hq hf.1 hf.2 hw (y 1) (y 2)

theorem runF_cover  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : ¬cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : ¬cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (y10 : Vec Ideal S64x256 .fp8e4m3) (y11 : Vec Ideal S64x256 .fp8e4m3) (kd : Vec Ideal S64x256 .f32) (vd : Vec Ideal S64x256 .f32)
    (s0 : Vec Ideal S32x32768 .f32) (y : S1x32x64.Idx) : ∃ p ∈ (runF (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 y10 y11 kd vd s0).1, y ∈ p.1.set := by
  rw [runF_y]; exact yPieces_cover _ _ _ _ _ y

/-- This run's block of the result is attention of its inputs' blocks. -/
theorem runG_value  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : ¬cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : ¬cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (y10 : Vec Ideal S64x256 .fp8e4m3) (y11 : Vec Ideal S64x256 .fp8e4m3) (kd : Vec Ideal S64x256 .f32) (vd : Vec Ideal S64x256 .f32)
    (s0 : Vec Ideal S32x32768 .f32) :
    View.canon (runG (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 y10 y11 kd vd s0).1 = fun y => blockY x0 x1 x2 (rowOf kd i) (rowOf vd i) x7 x8 (y 1) (y 2) := by
  funext y
  rw [runG_y, canon_yPieces, read_word0 harg1 x0, read_word1 harg1 x0, read_word2 harg1 x0, read_word3 harg1 x0, read_word0 harg2 x1, read_word1 harg2 x1, read_word2 harg2 x1, read_word3 harg2 x1, read_whole harg3 x2 z3 inb_S1x32x256_S1x32x256_0_0_0, read_row harg14 kd i, read_row harg15 vd i]
  exact wideValue Variants.none c none i harg1 harg2 harg3 harg4 harg5 harg6 harg7 harg8 harg9 harg10 harg11 harg12 harg13 harg14 harg15 harg16 harg17 harg18 x0 x1 x2 (rowOf kd i) (rowOf vd i) x7 x8 _ (y 1) (y 2)

theorem runG_cover  (c : Dev nD) (i : grid0.Coords) (arg1 : Memref sig .tc .smem S4 .i32) (harg1 : arg1.IsWhole) (arg2 : Memref sig .tc .smem S4 .i32) (harg2 : arg2.IsWhole) (arg3 : Memref sig .tc .vmem S1x32x256 .bf16) (harg3 : arg3.IsWhole) (arg4 : Memref sig .tc .vmem S64x256 .bf16) (harg4 : arg4.IsWhole) (arg5 : Memref sig .tc .vmem S64x256 .bf16) (harg5 : arg5.IsWhole) (arg6 : Memref sig .tc .vmem S1x256 .i32) (harg6 : arg6.IsWhole) (arg7 : Memref sig .tc .vmem S1x256 .i32) (harg7 : arg7.IsWhole) (arg8 : Memref sig .tc .vmem S1x256x32768 .fp8e4m3) (harg8 : arg8.IsWhole) (arg9 : Memref sig .tc .vmem S1x256x32768 .fp8e4m3) (harg9 : arg9.IsWhole) (arg10 : Memref sig .tc .vmem S1x32x64 .bf16) (harg10 : arg10.IsWhole) (arg11 : Memref sig .tc .vmem S64x256 .fp8e4m3) (harg11 : arg11.IsWhole) (arg12 : Memref sig .tc .vmem S64x256 .fp8e4m3) (harg12 : arg12.IsWhole) (arg13 : Memref sig .tc .vmem S32x32768 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S32x1 .f32) (harg16 : arg16.IsWhole) (arg17 : Memref sig .tc .vmem S32x1 .f32) (harg17 : arg17.IsWhole) (arg18 : Memref sig .tc .vmem S32x256 .f32) (harg18 : arg18.IsWhole) (hc0 : ¬cond0_0 i)
    (x0 : Vec Ideal S4 .i32) (x1 : Vec Ideal S4 .i32) (x2 : Vec Ideal S1x32x256 .bf16) (x3 : Vec Ideal S64x256 .bf16) (x4 : Vec Ideal S64x256 .bf16) (x5 : Vec Ideal S1x256 .i32) (x6 : Vec Ideal S1x256 .i32) (x7 : Vec Ideal S1x256x32768 .fp8e4m3) (x8 : Vec Ideal S1x256x32768 .fp8e4m3) (hc1 : ¬cond0_1 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos)))) (hc2 : cond0_2 i (arg1.view.readAt (Elt Ideal) (Rect.unit (s := S4) ![0] S1.size inb_S4_S1_0).toLoadRect (harg1.unread x0) (Shape.Idx.first (numel1_S1.symm ▸ Nat.one_pos))) (arg1.view.readAt (Elt Ideal) (Rect.unit (s := S4) ![1] S1.size inb_S4_S1_1).toLoadRect (harg1.unread x0) (Shape.Idx.first (numel1_S1.symm ▸ Nat.one_pos))) (arg1.view.readAt (Elt Ideal) (Rect.unit (s := S4) ![2] S1.size inb_S4_S1_2).toLoadRect (harg1.unread x0) (Shape.Idx.first (numel1_S1.symm ▸ Nat.one_pos))) (arg1.view.readAt (Elt Ideal) (Rect.unit (s := S4) ![3] S1.size inb_S4_S1_3).toLoadRect (harg1.unread x0) (Shape.Idx.first (numel1_S1.symm ▸ Nat.one_pos))) (arg2.view.readAt (Elt Ideal) (Rect.unit (s := S4) ![0] S1.size inb_S4_S1_0).toLoadRect (harg2.unread x1) (Shape.Idx.first (numel1_S1.symm ▸ Nat.one_pos))) (arg2.view.readAt (Elt Ideal) (Rect.unit (s := S4) ![1] S1.size inb_S4_S1_1).toLoadRect (harg2.unread x1) (Shape.Idx.first (numel1_S1.symm ▸ Nat.one_pos))) (arg2.view.readAt (Elt Ideal) (Rect.unit (s := S4) ![2] S1.size inb_S4_S1_2).toLoadRect (harg2.unread x1) (Shape.Idx.first (numel1_S1.symm ▸ Nat.one_pos))) (arg2.view.readAt (Elt Ideal) (Rect.unit (s := S4) ![3] S1.size inb_S4_S1_3).toLoadRect (harg2.unread x1) (Shape.Idx.first (numel1_S1.symm ▸ Nat.one_pos))))
    (y10 : Vec Ideal S64x256 .fp8e4m3) (y11 : Vec Ideal S64x256 .fp8e4m3) (kd : Vec Ideal S64x256 .f32) (vd : Vec Ideal S64x256 .f32)
    (s0 : Vec Ideal S32x32768 .f32) (y : S1x32x64.Idx) : ∃ p ∈ (runG (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 hc1 hc2 y10 y11 kd vd s0).1, y ∈ p.1.set := by
  rw [runG_y]; exact yPieces_cover _ _ _ _ _ y

end Cert.KernelIdeal.Gen

end
-- ==== Proof.Blocks.lean ====
/- The blocks that the grid points read, and what the run leaves in each of its buffers, over the extended reals. -/
module

public import proofs.«01_k».proof.Proof.HostK
public import proofs.«01_k».proof.Proof.RunValues

@[expose] public section

set_option maxRecDepth 16384

noncomputable section

namespace Cert.KernelIdeal.Gen

open Idealize.ShloMosaic Idealize.ShloMosaic.TcCoe Idealize.ShloMosaic.Tactic
open Idealize.SL.Sem

variable (m : (ℓ : Loc nD τ sig) → Buf (Elt Ideal) ℓ)

/-- Where the windows' blocks lie: one batch element per grid point for the queries, the codes and the result, the whole array for the others. -/
theorem idx : ∀ t : Fin cfg0.N, win0_0.index t = ![0] ∧ win0_1.index t = ![0] ∧ win0_2.index t = ![t.val, 0, 0] ∧ win0_3.index t = ![0, 0] ∧ win0_4.index t = ![0, 0]
    ∧ win0_5.index t = ![0, 0] ∧ win0_6.index t = ![0, 0] ∧ win0_7.index t = ![t.val, 0, 0] ∧ win0_8.index t = ![t.val, 0, 0] ∧ win0_9.index t = ![t.val, 0, 0]
    ∧ win0_10.index t = ![0, 0] ∧ win0_11.index t = ![0, 0] ∧ (grid0.coords t 0).val = t.val ∧ t.val < 64 :=
  (by decide +kernel : ∀ t : Fin grid0.N, _)

/-- The batch element of a grid point. -/
def batch (t : Fin cfg0.N) : Fin 64 := ⟨t.val, lt_of_lt_of_eq t.isLt N_0⟩

/-- The whole array of the words of the key scales. -/
def ksA (c : Dev nD) : Vec Ideal S4 .i32 := V m c main_arg4

theorem iblk_0 (c : Dev nD) (t : Fin cfg0.N) : iblk m c 0 t = ksA m c := by
  unfold ksA
  blk_ext! [iblk, idx t]

/-- The whole array of the words of the value scales. -/
def vsA (c : Dev nD) : Vec Ideal S4 .i32 := V m c main_arg6

theorem iblk_1 (c : Dev nD) (t : Fin cfg0.N) : iblk m c 1 t = vsA m c := by
  unfold vsA
  blk_ext! [iblk, idx t]

/-- The whole array of the new keys. -/
def knA (c : Dev nD) : Vec Ideal S64x256 .bf16 := V m c main_v16

theorem iblk_3 (c : Dev nD) (t : Fin cfg0.N) : iblk m c 3 t = knA m c := by
  unfold knA
  blk_ext! [iblk, idx t]

/-- The whole array of the new values. -/
def vnA (c : Dev nD) : Vec Ideal S64x256 .bf16 := V m c main_v17

theorem iblk_4 (c : Dev nD) (t : Fin cfg0.N) : iblk m c 4 t = vnA m c := by
  unfold vnA
  blk_ext! [iblk, idx t]

/-- The whole array of the key scales, one per column. -/
def kwA (c : Dev nD) : Vec Ideal S1x256 .i32 := V m c main_v20

theorem iblk_5 (c : Dev nD) (t : Fin cfg0.N) : iblk m c 5 t = kwA m c := by
  unfold kwA
  blk_ext! [iblk, idx t]

/-- The whole array of the value scales, one per column. -/
def vwA (c : Dev nD) : Vec Ideal S1x256 .i32 := V m c main_v23

theorem iblk_6 (c : Dev nD) (t : Fin cfg0.N) : iblk m c 6 t = vwA m c := by
  unfold vwA
  blk_ext! [iblk, idx t]

/-- The block of queries of a grid point is its batch element's. -/
theorem iblk_2_at (c : Dev nD) (t : Fin cfg0.N) (r : Fin 32) (x : Fin 256) :
    (iblk m c 2 t : Vec Ideal S1x32x256 .bf16) (ix3 0 r x) = (V m c main_v15 : Vec Ideal S64x32x256 .bf16) (ix3 (batch t) r x) := by
  unfold batch
  blk_ext [iblk, idx t]

/-- The block of key codes of a grid point is its batch element's. -/
theorem iblk_7_at (c : Dev nD) (t : Fin cfg0.N) (r : Fin 256) (x : Fin 32768) :
    (iblk m c 7 t : Vec Ideal S1x256x32768 .fp8e4m3) (ix3 0 r x) = (V m c main_v25 : Vec Ideal S64x256x32768 .fp8e4m3) (ix3 (batch t) r x) := by
  unfold batch
  blk_ext [iblk, idx t]

/-- The block of value codes of a grid point is its batch element's. -/
theorem iblk_8_at (c : Dev nD) (t : Fin cfg0.N) (r : Fin 256) (x : Fin 32768) :
    (iblk m c 8 t : Vec Ideal S1x256x32768 .fp8e4m3) (ix3 0 r x) = (V m c main_v27 : Vec Ideal S64x256x32768 .fp8e4m3) (ix3 (batch t) r x) := by
  unfold batch
  blk_ext [iblk, idx t]

/-- The key scale of a column's head. -/
theorem headScale_ks (c : Dev nD) (x : Fin 256) : headScale (ksA m c) x = Ideal.ofBits .f32 ((m ((c : Thread nD τ).loc main_arg4) : Vec Ideal S4 .i32) (ix1 ⟨x / 64, by omega⟩)) := by
  have h : ∀ (k : Fin 4), (x : ℕ) / 64 = k → Ideal.ofBits .f32 ((m ((c : Thread nD τ).loc main_arg4) : Vec Ideal S4 .i32) (ix1 ⟨x / 64, by omega⟩)) = Ideal.ofBits .f32 ((ksA m c) (ix1 k)) := by
    intro k hk
    rw [show (⟨(x : ℕ) / 64, by omega⟩ : Fin 4) = k from Fin.ext hk]; rfl
  unfold headScale perHead
  split_ifs
  · exact (h 0 (by show (x : ℕ) / 64 = 0; omega)).symm
  · exact (h 1 (by show (x : ℕ) / 64 = 1; omega)).symm
  · exact (h 2 (by show (x : ℕ) / 64 = 2; omega)).symm
  · exact (h 3 (by show (x : ℕ) / 64 = 3; omega)).symm

/-- The value scale of a column's head. -/
theorem headScale_vs (c : Dev nD) (x : Fin 256) : headScale (vsA m c) x = Ideal.ofBits .f32 ((m ((c : Thread nD τ).loc main_arg6) : Vec Ideal S4 .i32) (ix1 ⟨x / 64, by omega⟩)) := by
  have h : ∀ (k : Fin 4), (x : ℕ) / 64 = k → Ideal.ofBits .f32 ((m ((c : Thread nD τ).loc main_arg6) : Vec Ideal S4 .i32) (ix1 ⟨x / 64, by omega⟩)) = Ideal.ofBits .f32 ((vsA m c) (ix1 k)) := by
    intro k hk
    rw [show (⟨(x : ℕ) / 64, by omega⟩ : Fin 4) = k from Fin.ext hk]; rfl
  unfold headScale perHead
  split_ifs
  · exact (h 0 (by show (x : ℕ) / 64 = 0; omega)).symm
  · exact (h 1 (by show (x : ℕ) / 64 = 1; omega)).symm
  · exact (h 2 (by show (x : ℕ) / 64 = 2; omega)).symm
  · exact (h 3 (by show (x : ℕ) / 64 = 3; omega)).symm

/-- A grid point's queries are zero outside their own head's columns. -/
theorem own_head (c : Dev nD) (t : Fin cfg0.N) (r : Fin 32) (x : Fin 256) (h : (x : ℕ) / 64 ≠ r / 8) :
    (iblk m c 2 t : Vec Ideal S1x32x256 .bf16) (ix3 0 r x) = (0 : EReal) := by
  rw [iblk_2_at, entry_q]
  exact if_neg h

/-- Each column's word is its head's. -/
theorem own_scale (c : Dev nD) (t : Fin cfg0.N) (x : Fin 256) :
    Ideal.ofBits .f32 ((iblk m c 6 t : Vec Ideal S1x256 .i32) (ix2 0 x)) = headScale (iblk m c 1 t : Vec Ideal S4 .i32) x := by
  rw [iblk_6, iblk_1, headScale_vs]
  exact congrArg _ (entry_vs m c x)

/-- The new keys' codes. -/
def kcW (c : Dev nD) : Vec Ideal S64x256 .fp8e4m3 := k0_pay2 (F := Ideal) (knA m c) (kwA m c)
/-- The new values' codes. -/
def vcW (c : Dev nD) : Vec Ideal S64x256 .fp8e4m3 := k0_pay5 (F := Ideal) (vnA m c) (vwA m c)
/-- The dequantised new keys of the run. -/
def kdW (c : Dev nD) : Vec Ideal S64x256 .f32 := newK (knA m c) (kwA m c)
/-- The dequantised new values of the run. -/
def vdW (c : Dev nD) : Vec Ideal S64x256 .f32 := newV (vnA m c) (vwA m c)

/-- The attention result of a grid point. -/
def yW (c : Dev nD) (t : Fin cfg0.N) : Vec Ideal S1x32x64 .bf16 := fun y =>
  blockY (iblk m c 0 t) (iblk m c 1 t) (iblk m c 2 t) (rowOf (kdW m c) (grid0.coords t)) (rowOf (vdW m c) (grid0.coords t)) (iblk m c 7 t) (iblk m c 8 t) (y 1) (y 2)

theorem kcW_eq (c : Dev nD) (t : Fin cfg0.N) : k0_pay2 (F := Ideal) (iblk m c 3 t) (iblk m c 5 t) = kcW m c := by
  unfold kcW; rw [iblk_3, iblk_5]
theorem vcW_eq (c : Dev nD) (t : Fin cfg0.N) : k0_pay5 (F := Ideal) (iblk m c 4 t) (iblk m c 6 t) = vcW m c := by
  unfold vcW; rw [iblk_4, iblk_6]
theorem kdW_eq (c : Dev nD) (t : Fin cfg0.N) : newK (iblk m c 3 t) (iblk m c 5 t) = kdW m c := by
  unfold kdW; rw [iblk_3, iblk_5]
theorem vdW_eq (c : Dev nD) (t : Fin cfg0.N) : newV (iblk m c 4 t) (iblk m c 6 t) = vdW m c := by
  unfold vdW; rw [iblk_4, iblk_6]

/-- At the first point the dequantised rows are those the point has just computed. -/
theorem yW_eq (c : Dev nD) (t : Fin cfg0.N) :
    (fun y : S1x32x64.Idx => blockY (iblk m c 0 t) (iblk m c 1 t) (iblk m c 2 t) (rowOf (newK (iblk m c 3 t) (iblk m c 5 t)) (grid0.coords t)) (rowOf (newV (iblk m c 4 t) (iblk m c 6 t)) (grid0.coords t)) (iblk m c 7 t) (iblk m c 8 t) (y 1) (y 2))
      = yW m c t := by
  rw [kdW_eq, vdW_eq]; rfl

end Cert.KernelIdeal.Gen

end
-- ==== Proof.KDat.lean ====
/- The kernel's run over the extended reals: what every buffer holds between grid points, and what the run as a whole does. -/
module

public import proofs.«01_k».proof.Proof.Blocks
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

/-- What the scratch buffers hold before grid point `n`: anything before the first point; afterwards the dequantised rows in theirs and anything in the others. -/
def PhiS (c : Dev nD) : (n : ℕ) → n ≤ cfg0.N → sProp 𝕄
  | 0, _ => Pipeline.ΦA spec0 c
  | n + 1, _ => iprop(iprop((∃ d, owns (c : Thread nD τ) scM0_0 fullShare d) ∗ owns (c : Thread nD τ) scM0_1 fullShare (kdW m c) ∗ owns (c : Thread nD τ) scM0_2 fullShare (vdW m c) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (kdW m c) ∗ owns (c : Thread nD τ) scM0_2 fullShare (vdW m c) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-- The run's data: the arrays as the host hands them over; after every point each input's buffer at its block, the result's at the
    attention result of the point, and the two codes' buffers at the codes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => yW m c t
    | ⟨10, _⟩ => kcW m c
    | ⟨11, _⟩ => vcW m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = yW m c t := by dsimp only [dats]
theorem after0_10 (c : Dev nD) (t : Fin cfg0.N) : (dats m 0 c).after 10 t = kcW m c := by dsimp only [dats]
theorem after0_11 (c : Dev nD) (t : Fin cfg0.N) : (dats m 0 c).after 11 t = vcW m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- After the first point this buffer keeps the codes. -/
theorem before0_10 (c : Dev nD) : ∀ (n : ℕ) (h : n < cfg0.N), n ≠ 0 → ∀ d, (dats m 0 c).before 10 ⟨n, h⟩ d = kcW m c := by
  intro n
  induction n with
  | zero => intro _ h; exact absurd rfl h
  | succ n ih =>
    intro h _ d
    have hN : cfg0.N = 64 := N_0
    rw [Dat.before_of_pos _ 10 ⟨n + 1, h⟩ (Nat.succ_ne_zero n) rfl d]
    have hf : (cfg0.win 10).flush ⟨(n + 1) - 1, Nat.lt_of_le_of_lt (Nat.sub_le _ _) h⟩ = false := by
      rw [Bool.eq_false_iff]; intro hh
      have := (flush0_10 _).mp hh
      simp only [Nat.add_sub_cancel] at this
      omega
    simp only [hf, Bool.false_eq_true, if_false]
    unfold Dat.left
    split
    · rename_i hi
      by_cases hn : n = 0
      · subst hn
        have hc : k0_cond1 (grid0.coords (⟨0, by omega⟩ : Fin cfg0.N)) = 1#1 := (hcond0_0 ⟨0, by omega⟩).mpr rfl
        have hi' : (!(k0_cond1 (grid0.coords (⟨0, by omega⟩ : Fin cfg0.N)) == 1#1)) = true := hi
        rw [hc] at hi'
        exact absurd hi' (by decide)
      · exact ih (by omega) hn d
    · exact after0_10 m c _

/-- What the body hands back of this buffer at a point. -/
def leaves10 (c : Dev nD) (t : Fin cfg0.N) : sProp 𝕄 :=
  match cfg0.idle 10 (cfg0.grid.coords t) with
  | true =>
    match (cfg0.win 10).flush t with
    | false => iprop(∃ d, owns (c : Thread nD τ) ((cfg0.win 10).stage (cfg0.slots t 10)) fullShare ((dats m 0 c).before 10 t d))
    | true => owns (c : Thread nD τ) ((cfg0.win 10).stage (cfg0.slots t 10)) fullShare ((dats m 0 c).after 10 t)
  | false => owns (c : Thread nD τ) ((cfg0.win 10).stage (cfg0.slots t 10)) fullShare ((dats m 0 c).after 10 t)

/-- The codes in the buffer are what is asked for at every point. -/
theorem leave10 (c : Dev nD) (t : Fin cfg0.N) : owns (c : Thread nD τ) (ms0_10 t) fullShare (kcW m c) ⊢ leaves10 m c t := by
  unfold leaves10
  split
  · rename_i hi
    have ht : t.val ≠ 0 := by
      intro h0
      have hc : k0_cond1 (grid0.coords t) = 1#1 := (hcond0_0 t).mpr (by rw [h0])
      have hi' : (!(k0_cond1 (grid0.coords t) == 1#1)) = true := hi
      rw [hc] at hi'
      exact absurd hi' (by decide)
    split
    · iintro H
      iexists (kcW m c)
      rw [before0_10 m c t.val t.isLt ht]
      iexact H
    · rw [after0_10]
  · rw [after0_10]

/-- After the first point this buffer keeps the codes. -/
theorem before0_11 (c : Dev nD) : ∀ (n : ℕ) (h : n < cfg0.N), n ≠ 0 → ∀ d, (dats m 0 c).before 11 ⟨n, h⟩ d = vcW m c := by
  intro n
  induction n with
  | zero => intro _ h; exact absurd rfl h
  | succ n ih =>
    intro h _ d
    have hN : cfg0.N = 64 := N_0
    rw [Dat.before_of_pos _ 11 ⟨n + 1, h⟩ (Nat.succ_ne_zero n) rfl d]
    have hf : (cfg0.win 11).flush ⟨(n + 1) - 1, Nat.lt_of_le_of_lt (Nat.sub_le _ _) h⟩ = false := by
      rw [Bool.eq_false_iff]; intro hh
      have := (flush0_11 _).mp hh
      simp only [Nat.add_sub_cancel] at this
      omega
    simp only [hf, Bool.false_eq_true, if_false]
    unfold Dat.left
    split
    · rename_i hi
      by_cases hn : n = 0
      · subst hn
        have hc : k0_cond1 (grid0.coords (⟨0, by omega⟩ : Fin cfg0.N)) = 1#1 := (hcond0_0 ⟨0, by omega⟩).mpr rfl
        have hi' : (!(k0_cond1 (grid0.coords (⟨0, by omega⟩ : Fin cfg0.N)) == 1#1)) = true := hi
        rw [hc] at hi'
        exact absurd hi' (by decide)
      · exact ih (by omega) hn d
    · exact after0_11 m c _

/-- What the body hands back of this buffer at a point. -/
def leaves11 (c : Dev nD) (t : Fin cfg0.N) : sProp 𝕄 :=
  match cfg0.idle 11 (cfg0.grid.coords t) with
  | true =>
    match (cfg0.win 11).flush t with
    | false => iprop(∃ d, owns (c : Thread nD τ) ((cfg0.win 11).stage (cfg0.slots t 11)) fullShare ((dats m 0 c).before 11 t d))
    | true => owns (c : Thread nD τ) ((cfg0.win 11).stage (cfg0.slots t 11)) fullShare ((dats m 0 c).after 11 t)
  | false => owns (c : Thread nD τ) ((cfg0.win 11).stage (cfg0.slots t 11)) fullShare ((dats m 0 c).after 11 t)

/-- The codes in the buffer are what is asked for at every point. -/
theorem leave11 (c : Dev nD) (t : Fin cfg0.N) : owns (c : Thread nD τ) (ms0_11 t) fullShare (vcW m c) ⊢ leaves11 m c t := by
  unfold leaves11
  split
  · rename_i hi
    have ht : t.val ≠ 0 := by
      intro h0
      have hc : k0_cond1 (grid0.coords t) = 1#1 := (hcond0_0 t).mpr (by rw [h0])
      have hi' : (!(k0_cond1 (grid0.coords t) == 1#1)) = true := hi
      rw [hc] at hi'
      exact absurd hi' (by decide)
    split
    · iintro H
      iexists (vcW m c)
      rw [before0_11 m c t.val t.isLt ht]
      iexact H
    · rw [after0_11]
  · rw [after0_11]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ leaves10 m c t
    ∗ leaves11 m c t)

set_option maxHeartbeats 4000000 in
/-- The body at the first point, every scale passing the test. -/
theorem sound_B (c : Dev nD) (t : Fin cfg0.N) (h0 : t.val % 64 = 0) (hz : t.val = 0)
    (h1 : cond0_1 (grid0.coords t) ((ms0_0 t).view.readAt (Elt Ideal) (Rect.unit (s := S4) ![0] S1.size inb_S4_S1_0).toLoadRect ((hs0_0 t).unread (iblk m c 0 t)) (Shape.Idx.first (numel1_S1.symm ▸ Nat.one_pos))) ((ms0_0 t).view.readAt (Elt Ideal) (Rect.unit (s := S4) ![1] S1.size inb_S4_S1_1).toLoadRect ((hs0_0 t).unread (iblk m c 0 t)) (Shape.Idx.first (numel1_S1.symm ▸ Nat.one_pos))) ((ms0_0 t).view.readAt (Elt Ideal) (Rect.unit (s := S4) ![2] S1.size inb_S4_S1_2).toLoadRect ((hs0_0 t).unread (iblk m c 0 t)) (Shape.Idx.first (numel1_S1.symm ▸ Nat.one_pos))) ((ms0_0 t).view.readAt (Elt Ideal) (Rect.unit (s := S4) ![3] S1.size inb_S4_S1_3).toLoadRect ((hs0_0 t).unread (iblk m c 0 t)) (Shape.Idx.first (numel1_S1.symm ▸ Nat.one_pos))) ((ms0_1 t).view.readAt (Elt Ideal) (Rect.unit (s := S4) ![0] S1.size inb_S4_S1_0).toLoadRect ((hs0_1 t).unread (iblk m c 1 t)) (Shape.Idx.first (numel1_S1.symm ▸ Nat.one_pos))) ((ms0_1 t).view.readAt (Elt Ideal) (Rect.unit (s := S4) ![1] S1.size inb_S4_S1_1).toLoadRect ((hs0_1 t).unread (iblk m c 1 t)) (Shape.Idx.first (numel1_S1.symm ▸ Nat.one_pos))) ((ms0_1 t).view.readAt (Elt Ideal) (Rect.unit (s := S4) ![2] S1.size inb_S4_S1_2).toLoadRect ((hs0_1 t).unread (iblk m c 1 t)) (Shape.Idx.first (numel1_S1.symm ▸ Nat.one_pos))) ((ms0_1 t).view.readAt (Elt Ideal) (Rect.unit (s := S4) ![3] S1.size inb_S4_S1_3).toLoadRect ((hs0_1 t).unread (iblk m c 1 t)) (Shape.Idx.first (numel1_S1.symm ▸ Nat.one_pos)))) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_pos m c _ _ (Nat.succ_ne_zero _)]
  rw [PhiS_castSucc m c t, PhiS_zero m c _ _ hz, PhiA0_eq]
  iintro ⟨⟨⟨⟨%ds0, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runB (F := Ideal) c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) h1 (fun h => (cond2_iff _ _ _ _ _ _ _ _ _).mp h h1) ds0).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, ⟨%e9, H9⟩, ⟨%e10, H10⟩, ⟨%e11, H11⟩, HS0, ⟨%es1, HS1⟩, ⟨%es2, HS2⟩, HS3, HS4, HS5⟩
  isplitl [HS0 HS1 HS2 HS3 HS4 HS5 Hg]
  · isplitl [HS0 HS1 HS2 HS3 HS4 HS5]
    · isplitl [HS0]; · iexact HS0
      isplitl [HS1]
      · unfold owns; iexists _; isplitr
        swap; · iexact HS1
        ipureintro
        exact (View.read_writes_eq_canon _ _ _ (runB_kd_cover c _ _ _ _ _ _ _ _ _ _ _ _ _ _ _ _ _ _ _ _ _ _ _ _ _ _ _ _ _ _ _ _ _ _ _ _ _ _ _ _ _ _ _ _ _ _ _ _ _ _)).trans ((runB_kd_value c _ _ _ _ _ _ _ _ _ _ _ _ _ _ _ _ _ _ _ _ _ _ _ _ _ _ _ _ _ _ _ _ _ _ _ _ _ _ _ _ _ _ _ _ _ _ _ _ _ _).trans (kdW_eq m c t))
      isplitl [HS2]
      · unfold owns; iexists _; isplitr
        swap; · iexact HS2
        ipureintro
        exact (View.read_writes_eq_canon _ _ _ (runB_vd_cover c _ _ _ _ _ _ _ _ _ _ _ _ _ _ _ _ _ _ _ _ _ _ _ _ _ _ _ _ _ _ _ _ _ _ _ _ _ _ _ _ _ _ _ _ _ _ _ _ _ _)).trans ((runB_vd_value c _ _ _ _ _ _ _ _ _ _ _ _ _ _ _ _ _ _ _ _ _ _ _ _ _ _ _ _ _ _ _ _ _ _ _ _ _ _ _ _ _ _ _ _ _ _ _ _ _ _).trans (vdW_eq m c t))
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    exact (View.read_writes_eq_canon _ _ _ (runB_cover c _ _ _ _ _ _ _ _ _ _ _ _ _ _ _ _ _ _ _ _ _ _ _ _ _ _ _ _ _ _ _ _ _ _ _ _ _ _ _ _ _ _ _ _ _ _ _ _ _ _)).trans ((runB_value c _ _ _ _ _ _ _ _ _ _ _ _ _ _ _ _ _ _ _ _ _ _ _ _ _ _ _ _ _ _ _ _ _ _ _ _ _ _ _ _ _ _ _ _ _ _ _ _ _ _ (own_head m c t) (own_scale m c t)).trans (yW_eq m c t))
  isplitl [H10]
  · iapply leave10
    unfold owns; iexists _; isplitr
    swap; · iexact H10
    ipureintro
    exact (View.read_writes_eq_canon _ _ _ (runB_kc_cover c _ _ _ _ _ _ _ _ _ _ _ _ _ _ _ _ _ _ _ _ _ _ _ _ _ _ _ _ _ _ _ _ _ _ _ _ _ _ _ _ _ _ _ _ _ _ _ _ _ _)).trans ((runB_kc_value c _ _ _ _ _ _ _ _ _ _ _ _ _ _ _ _ _ _ _ _ _ _ _ _ _ _ _ _ _ _ _ _ _ _ _ _ _ _ _ _ _ _ _ _ _ _ _ _ _ _).trans (kcW_eq m c t))
  iapply leave11
  unfold owns; iexists _; isplitr
  swap; · iexact H11
  ipureintro
  exact (View.read_writes_eq_canon _ _ _ (runB_vc_cover c _ _ _ _ _ _ _ _ _ _ _ _ _ _ _ _ _ _ _ _ _ _ _ _ _ _ _ _ _ _ _ _ _ _ _ _ _ _ _ _ _ _ _ _ _ _ _ _ _ _)).trans ((runB_vc_value c _ _ _ _ _ _ _ _ _ _ _ _ _ _ _ _ _ _ _ _ _ _ _ _ _ _ _ _ _ _ _ _ _ _ _ _ _ _ _ _ _ _ _ _ _ _ _ _ _ _).trans (vcW_eq m c t))

set_option maxHeartbeats 4000000 in
/-- The body at the first point, some scale failing the test. -/
theorem sound_C (c : Dev nD) (t : Fin cfg0.N) (h0 : t.val % 64 = 0) (hz : t.val = 0)
    (h1 : ¬cond0_1 (grid0.coords t) ((ms0_0 t).view.readAt (Elt Ideal) (Rect.unit (s := S4) ![0] S1.size inb_S4_S1_0).toLoadRect ((hs0_0 t).unread (iblk m c 0 t)) (Shape.Idx.first (numel1_S1.symm ▸ Nat.one_pos))) ((ms0_0 t).view.readAt (Elt Ideal) (Rect.unit (s := S4) ![1] S1.size inb_S4_S1_1).toLoadRect ((hs0_0 t).unread (iblk m c 0 t)) (Shape.Idx.first (numel1_S1.symm ▸ Nat.one_pos))) ((ms0_0 t).view.readAt (Elt Ideal) (Rect.unit (s := S4) ![2] S1.size inb_S4_S1_2).toLoadRect ((hs0_0 t).unread (iblk m c 0 t)) (Shape.Idx.first (numel1_S1.symm ▸ Nat.one_pos))) ((ms0_0 t).view.readAt (Elt Ideal) (Rect.unit (s := S4) ![3] S1.size inb_S4_S1_3).toLoadRect ((hs0_0 t).unread (iblk m c 0 t)) (Shape.Idx.first (numel1_S1.symm ▸ Nat.one_pos))) ((ms0_1 t).view.readAt (Elt Ideal) (Rect.unit (s := S4) ![0] S1.size inb_S4_S1_0).toLoadRect ((hs0_1 t).unread (iblk m c 1 t)) (Shape.Idx.first (numel1_S1.symm ▸ Nat.one_pos))) ((ms0_1 t).view.readAt (Elt Ideal) (Rect.unit (s := S4) ![1] S1.size inb_S4_S1_1).toLoadRect ((hs0_1 t).unread (iblk m c 1 t)) (Shape.Idx.first (numel1_S1.symm ▸ Nat.one_pos))) ((ms0_1 t).view.readAt (Elt Ideal) (Rect.unit (s := S4) ![2] S1.size inb_S4_S1_2).toLoadRect ((hs0_1 t).unread (iblk m c 1 t)) (Shape.Idx.first (numel1_S1.symm ▸ Nat.one_pos))) ((ms0_1 t).view.readAt (Elt Ideal) (Rect.unit (s := S4) ![3] S1.size inb_S4_S1_3).toLoadRect ((hs0_1 t).unread (iblk m c 1 t)) (Shape.Idx.first (numel1_S1.symm ▸ Nat.one_pos)))) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_pos m c _ _ (Nat.succ_ne_zero _)]
  rw [PhiS_castSucc m c t, PhiS_zero m c _ _ hz, PhiA0_eq]
  iintro ⟨⟨⟨⟨%ds0, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runC (F := Ideal) c (grid0.coords t) _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) h1 ((cond2_iff _ _ _ _ _ _ _ _ _).mpr h1) ds0).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, ⟨%e9, H9⟩, ⟨%e10, H10⟩, ⟨%e11, H11⟩, HS0, ⟨%es1, HS1⟩, ⟨%es2, HS2⟩, HS3, HS4, HS5⟩
  isplitl [HS0 HS1 HS2 HS3 HS4 HS5 Hg]
  · isplitl [HS0 HS1 HS2 HS3 HS4 HS5]
    · isplitl [HS0]; · iexact HS0
      isplitl [HS1]
      · unfold owns; iexists _; isplitr
        swap; · iexact HS1
        ipureintro
        exact (View.read_writes_eq_canon _ _ _ (runC_kd_cover c _ _ _ _ _ _ _ _ _ _ _ _ _ _ _ _ _ _ _ _ _ _ _ _ _ _ _ _ _ _ _ _ _ _ _ _ _ _ _ _ _ _ _ _ _ _ _ _ _ _)).trans ((runC_kd_value c _ _ _ _ _ _ _ _ _ _ _ _ _ _ _ _ _ _ _ _ _ _ _ _ _ _ _ _ _ _ _ _ _ _ _ _ _ _ _ _ _ _ _ _ _ _ _ _ _ _).trans (kdW_eq m c t))
      isplitl [HS2]
      · unfold owns; iexists _; isplitr
        swap; · iexact HS2
        ipureintro
        exact (View.read_writes_eq_canon _ _ _ (runC_vd_cover c _ _ _ _ _ _ _ _ _ _ _ _ _ _ _ _ _ _ _ _ _ _ _ _ _ _ _ _ _ _ _ _ _ _ _ _ _ _ _ _ _ _ _ _ _ _ _ _ _ _)).trans ((runC_vd_value c _ _ _ _ _ _ _ _ _ _ _ _ _ _ _ _ _ _ _ _ _ _ _ _ _ _ _ _ _ _ _ _ _ _ _ _ _ _ _ _ _ _ _ _ _ _ _ _ _ _).trans (vdW_eq m c t))
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    exact (View.read_writes_eq_canon _ _ _ (runC_cover c _ _ _ _ _ _ _ _ _ _ _ _ _ _ _ _ _ _ _ _ _ _ _ _ _ _ _ _ _ _ _ _ _ _ _ _ _ _ _ _ _ _ _ _ _ _ _ _ _ _)).trans ((runC_value c _ _ _ _ _ _ _ _ _ _ _ _ _ _ _ _ _ _ _ _ _ _ _ _ _ _ _ _ _ _ _ _ _ _ _ _ _ _ _ _ _ _ _ _ _ _ _ _ _ _).trans (yW_eq m c t))
  isplitl [H10]
  · iapply leave10
    unfold owns; iexists _; isplitr
    swap; · iexact H10
    ipureintro
    exact (View.read_writes_eq_canon _ _ _ (runC_kc_cover c _ _ _ _ _ _ _ _ _ _ _ _ _ _ _ _ _ _ _ _ _ _ _ _ _ _ _ _ _ _ _ _ _ _ _ _ _ _ _ _ _ _ _ _ _ _ _ _ _ _)).trans ((runC_kc_value c _ _ _ _ _ _ _ _ _ _ _ _ _ _ _ _ _ _ _ _ _ _ _ _ _ _ _ _ _ _ _ _ _ _ _ _ _ _ _ _ _ _ _ _ _ _ _ _ _ _).trans (kcW_eq m c t))
  iapply leave11
  unfold owns; iexists _; isplitr
  swap; · iexact H11
  ipureintro
  exact (View.read_writes_eq_canon _ _ _ (runC_vc_cover c _ _ _ _ _ _ _ _ _ _ _ _ _ _ _ _ _ _ _ _ _ _ _ _ _ _ _ _ _ _ _ _ _ _ _ _ _ _ _ _ _ _ _ _ _ _ _ _ _ _)).trans ((runC_vc_value c _ _ _ _ _ _ _ _ _ _ _ _ _ _ _ _ _ _ _ _ _ _ _ _ _ _ _ _ _ _ _ _ _ _ _ _ _ _ _ _ _ _ _ _ _ _ _ _ _ _).trans (vcW_eq m c t))

set_option maxHeartbeats 4000000 in
/-- The body at a later point, every scale passing the test. -/
theorem sound_F (c : Dev nD) (t : Fin cfg0.N) (h0 : ¬t.val % 64 = 0) (hz : t.val ≠ 0)
    (h1 : cond0_1 (grid0.coords t) ((ms0_0 t).view.readAt (Elt Ideal) (Rect.unit (s := S4) ![0] S1.size inb_S4_S1_0).toLoadRect ((hs0_0 t).unread (iblk m c 0 t)) (Shape.Idx.first (numel1_S1.symm ▸ Nat.one_pos))) ((ms0_0 t).view.readAt (Elt Ideal) (Rect.unit (s := S4) ![1] S1.size inb_S4_S1_1).toLoadRect ((hs0_0 t).unread (iblk m c 0 t)) (Shape.Idx.first (numel1_S1.symm ▸ Nat.one_pos))) ((ms0_0 t).view.readAt (Elt Ideal) (Rect.unit (s := S4) ![2] S1.size inb_S4_S1_2).toLoadRect ((hs0_0 t).unread (iblk m c 0 t)) (Shape.Idx.first (numel1_S1.symm ▸ Nat.one_pos))) ((ms0_0 t).view.readAt (Elt Ideal) (Rect.unit (s := S4) ![3] S1.size inb_S4_S1_3).toLoadRect ((hs0_0 t).unread (iblk m c 0 t)) (Shape.Idx.first (numel1_S1.symm ▸ Nat.one_pos))) ((ms0_1 t).view.readAt (Elt Ideal) (Rect.unit (s := S4) ![0] S1.size inb_S4_S1_0).toLoadRect ((hs0_1 t).unread (iblk m c 1 t)) (Shape.Idx.first (numel1_S1.symm ▸ Nat.one_pos))) ((ms0_1 t).view.readAt (Elt Ideal) (Rect.unit (s := S4) ![1] S1.size inb_S4_S1_1).toLoadRect ((hs0_1 t).unread (iblk m c 1 t)) (Shape.Idx.first (numel1_S1.symm ▸ Nat.one_pos))) ((ms0_1 t).view.readAt (Elt Ideal) (Rect.unit (s := S4) ![2] S1.size inb_S4_S1_2).toLoadRect ((hs0_1 t).unread (iblk m c 1 t)) (Shape.Idx.first (numel1_S1.symm ▸ Nat.one_pos))) ((ms0_1 t).view.readAt (Elt Ideal) (Rect.unit (s := S4) ![3] S1.size inb_S4_S1_3).toLoadRect ((hs0_1 t).unread (iblk m c 1 t)) (Shape.Idx.first (numel1_S1.symm ▸ Nat.one_pos)))) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_pos m c _ _ (Nat.succ_ne_zero _)]
  rw [PhiS_castSucc m c t, PhiS_pos m c _ _ hz]
  iintro ⟨⟨⟨⟨%ds0, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0_10 m c t.val t.isLt hz d10, before0_11 m c t.val t.isLt hz d11]
  iapply ((runF (F := Ideal) c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) h1 (fun h => (cond2_iff _ _ _ _ _ _ _ _ _).mp h h1) (kcW m c) (vcW m c) (kdW m c) (vdW m c) ds0).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, ⟨%e9, H9⟩, H10, H11, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    exact (View.read_writes_eq_canon _ _ _ (runF_cover c _ _ _ _ _ _ _ _ _ _ _ _ _ _ _ _ _ _ _ _ _ _ _ _ _ _ _ _ _ _ _ _ _ _ _ _ _ _ _ _ _ _ _ _ _ _ _ _ _ _ _ _ _ _)).trans ((runF_value c _ _ _ _ _ _ _ _ _ _ _ _ _ _ _ _ _ _ _ _ _ _ _ _ _ _ _ _ _ _ _ _ _ _ _ _ _ _ _ _ _ _ _ _ _ _ _ _ _ _ _ _ _ _ (own_head m c t) (own_scale m c t)).trans rfl)
  isplitl [H10]
  · iapply leave10; iexact H10
  iapply leave11; iexact H11

set_option maxHeartbeats 4000000 in
/-- The body at a later point, some scale failing the test. -/
theorem sound_G (c : Dev nD) (t : Fin cfg0.N) (h0 : ¬t.val % 64 = 0) (hz : t.val ≠ 0)
    (h1 : ¬cond0_1 (grid0.coords t) ((ms0_0 t).view.readAt (Elt Ideal) (Rect.unit (s := S4) ![0] S1.size inb_S4_S1_0).toLoadRect ((hs0_0 t).unread (iblk m c 0 t)) (Shape.Idx.first (numel1_S1.symm ▸ Nat.one_pos))) ((ms0_0 t).view.readAt (Elt Ideal) (Rect.unit (s := S4) ![1] S1.size inb_S4_S1_1).toLoadRect ((hs0_0 t).unread (iblk m c 0 t)) (Shape.Idx.first (numel1_S1.symm ▸ Nat.one_pos))) ((ms0_0 t).view.readAt (Elt Ideal) (Rect.unit (s := S4) ![2] S1.size inb_S4_S1_2).toLoadRect ((hs0_0 t).unread (iblk m c 0 t)) (Shape.Idx.first (numel1_S1.symm ▸ Nat.one_pos))) ((ms0_0 t).view.readAt (Elt Ideal) (Rect.unit (s := S4) ![3] S1.size inb_S4_S1_3).toLoadRect ((hs0_0 t).unread (iblk m c 0 t)) (Shape.Idx.first (numel1_S1.symm ▸ Nat.one_pos))) ((ms0_1 t).view.readAt (Elt Ideal) (Rect.unit (s := S4) ![0] S1.size inb_S4_S1_0).toLoadRect ((hs0_1 t).unread (iblk m c 1 t)) (Shape.Idx.first (numel1_S1.symm ▸ Nat.one_pos))) ((ms0_1 t).view.readAt (Elt Ideal) (Rect.unit (s := S4) ![1] S1.size inb_S4_S1_1).toLoadRect ((hs0_1 t).unread (iblk m c 1 t)) (Shape.Idx.first (numel1_S1.symm ▸ Nat.one_pos))) ((ms0_1 t).view.readAt (Elt Ideal) (Rect.unit (s := S4) ![2] S1.size inb_S4_S1_2).toLoadRect ((hs0_1 t).unread (iblk m c 1 t)) (Shape.Idx.first (numel1_S1.symm ▸ Nat.one_pos))) ((ms0_1 t).view.readAt (Elt Ideal) (Rect.unit (s := S4) ![3] S1.size inb_S4_S1_3).toLoadRect ((hs0_1 t).unread (iblk m c 1 t)) (Shape.Idx.first (numel1_S1.symm ▸ Nat.one_pos)))) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_pos m c _ _ (Nat.succ_ne_zero _)]
  rw [PhiS_castSucc m c t, PhiS_pos m c _ _ hz]
  iintro ⟨⟨⟨⟨%ds0, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0_10 m c t.val t.isLt hz d10, before0_11 m c t.val t.isLt hz d11]
  iapply ((runG (F := Ideal) c (grid0.coords t) _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) h1 ((cond2_iff _ _ _ _ _ _ _ _ _).mpr h1) (kcW m c) (vcW m c) (kdW m c) (vdW m c) ds0).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, ⟨%e9, H9⟩, H10, H11, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    exact (View.read_writes_eq_canon _ _ _ (runG_cover c _ _ _ _ _ _ _ _ _ _ _ _ _ _ _ _ _ _ _ _ _ _ _ _ _ _ _ _ _ _ _ _ _ _ _ _ _ _ _ _ _ _ _ _ _ _ _ _ _ _ _ _ _ _)).trans ((runG_value c _ _ _ _ _ _ _ _ _ _ _ _ _ _ _ _ _ _ _ _ _ _ _ _ _ _ _ _ _ _ _ _ _ _ _ _ _ _ _ _ _ _ _ _ _ _ _ _ _ _ _ _ _ _).trans rfl)
  isplitl [H10]
  · iapply leave10; iexact H10
  iapply leave11; iexact H11

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 64 := lt_of_lt_of_eq t.isLt (show cfg0.N = 64 from N_0)
  by_cases h1 : cond0_1 (grid0.coords t) ((ms0_0 t).view.readAt (Elt Ideal) (Rect.unit (s := S4) ![0] S1.size inb_S4_S1_0).toLoadRect ((hs0_0 t).unread (iblk m c 0 t)) (Shape.Idx.first (numel1_S1.symm ▸ Nat.one_pos))) ((ms0_0 t).view.readAt (Elt Ideal) (Rect.unit (s := S4) ![1] S1.size inb_S4_S1_1).toLoadRect ((hs0_0 t).unread (iblk m c 0 t)) (Shape.Idx.first (numel1_S1.symm ▸ Nat.one_pos))) ((ms0_0 t).view.readAt (Elt Ideal) (Rect.unit (s := S4) ![2] S1.size inb_S4_S1_2).toLoadRect ((hs0_0 t).unread (iblk m c 0 t)) (Shape.Idx.first (numel1_S1.symm ▸ Nat.one_pos))) ((ms0_0 t).view.readAt (Elt Ideal) (Rect.unit (s := S4) ![3] S1.size inb_S4_S1_3).toLoadRect ((hs0_0 t).unread (iblk m c 0 t)) (Shape.Idx.first (numel1_S1.symm ▸ Nat.one_pos))) ((ms0_1 t).view.readAt (Elt Ideal) (Rect.unit (s := S4) ![0] S1.size inb_S4_S1_0).toLoadRect ((hs0_1 t).unread (iblk m c 1 t)) (Shape.Idx.first (numel1_S1.symm ▸ Nat.one_pos))) ((ms0_1 t).view.readAt (Elt Ideal) (Rect.unit (s := S4) ![1] S1.size inb_S4_S1_1).toLoadRect ((hs0_1 t).unread (iblk m c 1 t)) (Shape.Idx.first (numel1_S1.symm ▸ Nat.one_pos))) ((ms0_1 t).view.readAt (Elt Ideal) (Rect.unit (s := S4) ![2] S1.size inb_S4_S1_2).toLoadRect ((hs0_1 t).unread (iblk m c 1 t)) (Shape.Idx.first (numel1_S1.symm ▸ Nat.one_pos))) ((ms0_1 t).view.readAt (Elt Ideal) (Rect.unit (s := S4) ![3] S1.size inb_S4_S1_3).toLoadRect ((hs0_1 t).unread (iblk m c 1 t)) (Shape.Idx.first (numel1_S1.symm ▸ Nat.one_pos)))
  · by_cases h0 : t.val % 64 = 0
    · exact sound_B m c t h0 (by omega) h1
    · exact sound_F m c t h0 (by omega) h1
  · by_cases h0 : t.val % 64 = 0
    · exact sound_C m c t h0 (by omega) h1
    · exact sound_G m c t h0 (by omega) h1

theorem defs₀_row (t : Fin cfg0.N) :
    defs₀ (F := Ideal) .tc cfg0.body (cfg0.bodyArgs t (cfg0.slots t)) = bodyAt0 t := by
  unfold defs₀; rw [Defs.onTc_tc]

/-- The body does at every point what the run's data says. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexact HS0
    isplitl [HS1]
    · iexists _; iexact HS1
    isplitl [HS2]
    · iexists _; iexact HS2
    isplitl [HS3]
    · iexact HS3
    isplitl [HS4]
    · iexact HS4
    iexact HS5
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- Every run of the program ends with the arrays at what the run's data says and no counter raised. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every run ends, the argument arrays unchanged and no counter raised. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Quant.lean ====
/- The inverse of the quantiser's step: the kernel reads it off the exponent field of the scale's word, the reference off the powers of two below the scale, and both are the same power of two. -/
module

public import Idealize.ShloMosaic.Lib.Pointwise
public import Idealize.ShloMosaic.Lib.Claim

@[expose] public section

set_option maxRecDepth 16384

noncomputable section

namespace Cert.Quant

open Idealize.ShloMosaic Idealize.ShloMosaic.TcCoe Idealize.ShloMosaic.Tactic

/-- The exponent field of a word. -/
def field (w : BitVec 32) : BitVec 8 := w.extractLsb' 23 8

/-- The inverse step for the scale of word `w`: two to the power `127 - E` for the exponent field `E`, zero where that power is no normal number, and two where the scale is zero, subnormal or not finite. -/
def step (w : BitVec 32) : EReal :=
  if (field w).toNat = 0 ∨ (field w).toNat = 255 then 2
  else if (field w).toNat = 254 then 0 else (((2 : ℝ) ^ (127 - ((field w).toNat : ℤ)) : ℝ) : EReal)

/-- The word of the inverse step as the kernel forms it from the exponent field, widened. -/
def stepWord (e : BitVec 32) : BitVec 32 :=
  IntOp.shli ArithUnit.vector
    (IntOp.addi
      (IntOp.subi (1#32)
        (Scalar.select
          (IntOp.ori (IntOp.cmpi CmpIPredicate.eq e 0#32) (IntOp.cmpi CmpIPredicate.eq e 255#32))
          (0#32) (IntOp.subi e 126#32)))
      127#32)
    23#32

/-- Shifting and masking a word leaves its exponent field. -/
theorem masked (w : BitVec 32) : IntOp.andi (IntOp.shrsi ArithUnit.vector w 23#32) 255#32 = (field w).setWidth 32 := by
  have h : IntOp.shrsi ArithUnit.vector w 23#32 = w.sshiftRight 23 := by
    simp [IntOp.shrsi, BitVec.sshiftRight']
  rw [h]
  unfold IntOp.andi field
  ext i hi
  simp only [BitVec.getElem_and, BitVec.getElem_sshiftRight, BitVec.getElem_setWidth, BitVec.getLsbD_extractLsb']
  have h255 : (255#32)[i] = decide (i < 8) := by
    revert i; decide
  rw [h255]
  by_cases h8 : i < 8
  · have : 23 + i < 32 ∨ ¬ 23 + i < 32 := by omega
    simp only [h8, decide_true, Bool.and_true, Bool.true_and]
    rw [dif_pos (by omega)]
    rfl
  · simp [h8]

/-- The fields of the kernel's word. -/
theorem stepWord_fields : ∀ e : BitVec 8,
    (stepWord (e.setWidth 32)).extractLsb' 31 1 = 0#1 ∧ (stepWord (e.setWidth 32)).extractLsb' 0 23 = 0#23 ∧
      ((stepWord (e.setWidth 32)).extractLsb' 23 8).toNat = if e.toNat = 0 ∨ e.toNat = 255 then 128 else 254 - e.toNat := by
  decide +kernel

/-- The kernel's inverse step. -/
theorem kernel_step (w : BitVec 32) :
    Ideal.ofBits .f32 (stepWord (IntOp.andi (IntOp.shrsi ArithUnit.vector w 23#32) 255#32)) = step w := by
  rw [masked]
  obtain ⟨h1, h2, h3⟩ := stepWord_fields (field w)
  have hl := (field w).isLt
  change Ideal.ieee 8 23 _ = _
  unfold Ideal.ieee step
  simp only [Nat.reduceAdd]
  rw [h1, h2, h3]
  by_cases h : (field w).toNat = 0 ∨ (field w).toNat = 255
  · rw [if_pos h, if_pos h]
    norm_num
    rfl
  · rw [if_neg h, if_neg h]
    rw [not_or] at h
    by_cases h4 : (field w).toNat = 254
    · rw [h4]; norm_num
    · rw [if_neg (by norm_num; omega), if_neg (by omega), if_neg h4]
      have : ((254 - (field w).toNat : ℕ) : ℤ) = 254 - ((field w).toNat : ℤ) := by omega
      rw [this]
      norm_num
      have e1 : (8388608 : ℝ) = (2 : ℝ) ^ (23 : ℤ) := by norm_num
      rw [← EReal.coe_mul, e1, ← zpow_add₀ (by norm_num : (2 : ℝ) ≠ 0)]
      congr 2
      ring

/-- The size of the real number `σ * a`, for a sign `σ`. -/
theorem size_signed (b : Bool) (a : ℝ) (ha : 0 ≤ a) :
    (max (((if b then (-1 : ℝ) else 1) * a : ℝ) : EReal) (-(((if b then (-1 : ℝ) else 1) * a : ℝ) : EReal))) = (a : EReal) := by
  cases b
  · simp only [Bool.false_eq_true, if_false, one_mul]
    exact max_eq_left (by rw [← EReal.coe_neg]; exact_mod_cast (by linarith))
  · simp only [if_true, neg_mul, one_mul, EReal.coe_neg, neg_neg]
    exact max_eq_right (by rw [← EReal.coe_neg]; exact_mod_cast (by linarith))

/-- The size of the scale of a word. -/
def size (w : BitVec 32) : EReal := max (Ideal.ofBits .f32 w) (-(Ideal.ofBits .f32 w))

/-- The size of a scale that is not finite. -/
theorem size_top (w : BitVec 32) (h : (field w).toNat = 255) : size w = ⊤ := by
  unfold size
  change max (Ideal.ieee 8 23 w) (-(Ideal.ieee 8 23 w)) = ⊤
  unfold Ideal.ieee
  dsimp only
  rw [if_pos (by exact h)]
  split_ifs <;> simp

/-- The size of a zero or subnormal scale. -/
theorem size_sub (w : BitVec 32) (h : (field w).toNat = 0) : size w = (((w.extractLsb' 0 23).toNat * (2 : ℝ) ^ (-149 : ℤ) : ℝ) : EReal) := by
  unfold size
  change max (Ideal.ieee 8 23 w) (-(Ideal.ieee 8 23 w)) = _
  unfold Ideal.ieee
  dsimp only
  rw [if_neg (show ¬ (w.extractLsb' 23 8).toNat = _ by rw [show (w.extractLsb' 23 8).toNat = 0 from h]; norm_num), if_pos (by exact h)]
  rw [mul_assoc, size_signed _ _ (by positivity)]
  norm_num

/-- The size of a normal scale. -/
theorem size_normal (w : BitVec 32) (h0 : (field w).toNat ≠ 0) (h1 : (field w).toNat ≠ 255) :
    size w = (((2 ^ 23 + (w.extractLsb' 0 23).toNat : ℕ) * (2 : ℝ) ^ (((field w).toNat : ℤ) - 150) : ℝ) : EReal) := by
  unfold size
  change max (Ideal.ieee 8 23 w) (-(Ideal.ieee 8 23 w)) = _
  unfold Ideal.ieee
  dsimp only
  rw [if_neg (show ¬ (w.extractLsb' 23 8).toNat = _ by exact h1), if_neg (by exact h0)]
  rw [mul_assoc, size_signed _ _ (by positivity)]
  have e : ((field w).toNat : ℤ) - 150 = ((field w).toNat : ℤ) - (2 ^ (8 - 1) - 1) - (23 : ℕ) := by
    norm_num
    ring
  rw [e]
  rfl

/-- The reference's exponent of the greatest power of two that is at most `s`. -/
def octave (s : EReal) : EReal :=
  Finset.fold max (Ideal.ofBits FTy.f32 4286578688#32)
    (fun x : Fin 254 =>
      if Ideal.pow (Ideal.ofBits FTy.f32 1073741824#32) (FloatOps.sitofp (F := Ideal) FTy.f32 (IntOp.addi (4294967170#32) (BitVec.ofNat 32 ↑x))) ≤ s
      then FloatOps.sitofp (F := Ideal) FTy.f32 (IntOp.addi (4294967170#32) (BitVec.ofNat 32 ↑x))
      else Ideal.ofBits FTy.f32 3271294976#32) Finset.univ

/-- The reference's exponent for a scale of size `s`. -/
def expo (s : EReal) : EReal :=
  Scalar.select
    (IntOp.andi (BitVec.ofBool (decide (Ideal.ofBits FTy.f32 8388608#32 ≤ s))) (BitVec.ofBool (decide (s < Ideal.ofBits FTy.f32 2139095040#32))))
    (octave s + 1) 0

/-- The reference's inverse step for a scale of size `s`. -/
def inverse (s : EReal) : EReal :=
  if 1 - expo s < Ideal.ofBits FTy.f32 3271294976#32 then 0 else Ideal.pow (Ideal.ofBits FTy.f32 1073741824#32) (1 - expo s)

theorem ofBits_two : Ideal.ofBits FTy.f32 1073741824#32 = ((2 : ℝ) : EReal) := by
  simp [Ideal.ofBits, Ideal.ieee]; rw [← EReal.coe_mul]; congr 1; norm_num

theorem ofBits_least : Ideal.ofBits FTy.f32 8388608#32 = (((2 : ℝ) ^ (-126 : ℤ) : ℝ) : EReal) := by
  simp [Ideal.ofBits, Ideal.ieee]; rw [← EReal.coe_mul]; congr 1; norm_num

theorem ofBits_m126 : Ideal.ofBits FTy.f32 3271294976#32 = ((-126 : ℝ) : EReal) := by
  simp [Ideal.ofBits, Ideal.ieee]; rw [← EReal.coe_mul]; congr 1; norm_num

theorem ofBits_top : Ideal.ofBits FTy.f32 2139095040#32 = ⊤ := by
  simp [Ideal.ofBits, Ideal.ieee]

theorem ofBits_bot : Ideal.ofBits FTy.f32 4286578688#32 = ⊥ := by
  simp [Ideal.ofBits, Ideal.ieee]

/-- The reference's list of exponents. -/
theorem list_at (x : Fin 254) : FloatOps.sitofp (F := Ideal) FTy.f32 (IntOp.addi (4294967170#32) (BitVec.ofNat 32 ↑x)) = ((((x : ℤ) - 126 : ℤ) : ℝ) : EReal) := by
  have h : ∀ x : Fin 254, (IntOp.addi (4294967170#32) (BitVec.ofNat 32 ↑x)).toInt = (x : ℤ) - 126 := by decide +kernel
  change (((IntOp.addi (4294967170#32) (BitVec.ofNat 32 ↑x)).toInt : ℝ) : EReal) = _
  rw [h]

/-- A power of two with a whole exponent. -/
theorem pow_two (k : ℤ) : Ideal.pow (Ideal.ofBits FTy.f32 1073741824#32) (((k : ℝ)) : EReal) = (((2 : ℝ) ^ k : ℝ) : EReal) := by
  rw [ofBits_two]
  change ((Real.rpow 2 (k : ℝ) : ℝ) : EReal) = _
  congr 1
  exact Real.rpow_intCast 2 k

/-- The greatest power of two that is at most a normal scale. -/
theorem octave_normal (E f : ℕ) (h0 : E ≠ 0) (h1 : E ≤ 254) (hf : f < 2 ^ 23) :
    octave ((((2 ^ 23 + f : ℕ) : ℝ) * (2 : ℝ) ^ ((E : ℤ) - 150) : ℝ) : EReal) = ((((E : ℤ) - 127 : ℤ) : ℝ) : EReal) := by
  have hz : (2 : ℝ) ≠ 0 := by norm_num
  have hlow : (2 : ℝ) ^ ((E : ℤ) - 127) ≤ ((2 ^ 23 + f : ℕ) : ℝ) * (2 : ℝ) ^ ((E : ℤ) - 150) := by
    have : (2 : ℝ) ^ ((E : ℤ) - 127) = (2 : ℝ) ^ 23 * (2 : ℝ) ^ ((E : ℤ) - 150) := by
      rw [← zpow_natCast, ← zpow_add₀ hz]; congr 1; push_cast; ring
    rw [this]
    refine mul_le_mul_of_nonneg_right ?_ (by positivity)
    push_cast
    linarith [(Nat.cast_nonneg f : (0 : ℝ) ≤ f)]
  have hhigh : ((2 ^ 23 + f : ℕ) : ℝ) * (2 : ℝ) ^ ((E : ℤ) - 150) < (2 : ℝ) ^ ((E : ℤ) - 126) := by
    have : (2 : ℝ) ^ ((E : ℤ) - 126) = (2 : ℝ) ^ 24 * (2 : ℝ) ^ ((E : ℤ) - 150) := by
      rw [← zpow_natCast, ← zpow_add₀ hz]; congr 1; push_cast; ring
    rw [this]
    refine mul_lt_mul_of_pos_right ?_ (by positivity)
    have : (f : ℝ) < 2 ^ 23 := by exact_mod_cast hf
    push_cast
    linarith
  unfold octave
  simp only [list_at, pow_two, ofBits_m126, ofBits_bot, EReal.coe_le_coe_iff]
  apply le_antisymm
  · rw [Finset.fold_max_le]
    refine ⟨bot_le, fun x _ => ?_⟩
    split_ifs with hx
    · rw [EReal.coe_le_coe_iff]
      have := (zpow_lt_zpow_iff_right₀ (by norm_num : (1 : ℝ) < 2)).mp (lt_of_le_of_lt hx hhigh)
      exact_mod_cast (by omega : (x : ℤ) - 126 ≤ (E : ℤ) - 127)
    · rw [EReal.coe_le_coe_iff]
      exact_mod_cast (by omega : (-126 : ℤ) ≤ (E : ℤ) - 127)
  · rw [Finset.le_fold_max]
    refine Or.inr ⟨⟨E - 1, by omega⟩, Finset.mem_univ _, ?_⟩
    have hc : ((⟨E - 1, by omega⟩ : Fin 254) : ℕ) = E - 1 := rfl
    have hi : (((E - 1 : ℕ) : ℤ) - 126) = (E : ℤ) - 127 := by omega
    simp only [hi]
    rw [if_pos hlow]

/-- A conjunction of bits with an unset bit is unset. -/
theorem and_false_left (b : BitVec 1) : ¬ IntOp.andi (BitVec.ofBool false) b = 1#1 := by revert b; decide

/-- A conjunction of bits with an unset bit is unset. -/
theorem and_false_right (b : BitVec 1) : ¬ IntOp.andi b (BitVec.ofBool false) = 1#1 := by revert b; decide

/-- The reference's inverse step. -/
theorem reference_step (w : BitVec 32) : inverse (size w) = step w := by
  have hl := (field w).isLt
  have hfr := (w.extractLsb' 0 23).isLt
  have one_sub (k : ℤ) : (1 : EReal) - ((k : ℝ) : EReal) = (((1 - k : ℤ) : ℝ) : EReal) := by
    push_cast; rfl
  have special (h : expo (size w) = 0) : inverse (size w) = 2 := by
    unfold inverse
    rw [h, sub_zero, if_neg, show (1 : EReal) = (((1 : ℤ) : ℝ) : EReal) by norm_num, pow_two]
    · norm_num
      rfl
    · rw [ofBits_m126, not_lt, show (1 : EReal) = ((1 : ℝ) : EReal) by norm_num, EReal.coe_le_coe_iff]
      norm_num
  by_cases h : (field w).toNat = 0 ∨ (field w).toNat = 255
  · unfold step
    rw [if_pos h]
    apply special
    unfold expo Scalar.select
    rw [if_neg]
    rcases h with h | h
    · have hn : ¬ ((((2 : ℝ) ^ (-126 : ℤ) : ℝ) : EReal) ≤ (((w.extractLsb' 0 23).toNat * (2 : ℝ) ^ (-149 : ℤ) : ℝ) : EReal)) := by
        rw [not_le, EReal.coe_lt_coe_iff]
        have : ((2 : ℝ) ^ (-126 : ℤ)) = 2 ^ 23 * (2 : ℝ) ^ (-149 : ℤ) := by norm_num
        rw [this]
        refine mul_lt_mul_of_pos_right ?_ (by positivity)
        exact_mod_cast hfr
      rw [size_sub w h, ofBits_least, decide_eq_false hn]
      exact and_false_left _
    · rw [size_top w h, ofBits_top]
      rw [decide_eq_false (lt_irrefl _)]
      exact and_false_right _
  · unfold step
    rw [if_neg h]
    rw [not_or] at h
    have hs := size_normal w h.1 h.2
    have ho := octave_normal (field w).toNat (w.extractLsb' 0 23).toNat h.1 (by omega) hfr
    have he : expo (size w) = (((((field w).toNat : ℤ) - 126 : ℤ) : ℝ) : EReal) := by
      unfold expo Scalar.select
      rw [hs, ho, if_pos]
      · rw [show (1 : EReal) = ((1 : ℝ) : EReal) by norm_num, ← EReal.coe_add]
        congr 1
        push_cast
        ring
      · rw [ofBits_top, ofBits_least, decide_eq_true (EReal.coe_lt_top _), decide_eq_true]
        · rfl
        · rw [EReal.coe_le_coe_iff]
          have hz : (2 : ℝ) ≠ 0 := by norm_num
          have e1 : (2 : ℝ) ^ (-126 : ℤ) ≤ (2 : ℝ) ^ (23 : ℕ) * (2 : ℝ) ^ (((field w).toNat : ℤ) - 150) := by
            rw [← zpow_natCast, ← zpow_add₀ hz]
            refine zpow_le_zpow_right₀ (by norm_num) ?_
            push_cast
            omega
          refine e1.trans (mul_le_mul_of_nonneg_right ?_ (by positivity))
          push_cast
          linarith [(Nat.cast_nonneg (w.extractLsb' 0 23).toNat : (0 : ℝ) ≤ _)]
    unfold inverse
    rw [he, one_sub, pow_two, ofBits_m126]
    by_cases h4 : (field w).toNat = 254
    · rw [if_pos h4, if_pos]
      rw [h4, EReal.coe_lt_coe_iff]
      norm_num
    · rw [if_neg h4, if_neg]
      · congr 2
        ring
      · rw [not_lt, EReal.coe_le_coe_iff]
        exact_mod_cast (by omega : (-126 : ℤ) ≤ 1 - (((field w).toNat : ℤ) - 126))

end Cert.Quant
-- ==== Proof.Spec.lean ====
/- The results of the decode step as functions of its arguments. -/
module

public import proofs.«01_k».proof.Proof.Attend
public import proofs.«01_k».proof.Proof.Quant

@[expose] public section

noncomputable section

namespace Cert.Spec

open Idealize.ShloMosaic
open Cert.Attend (attend)
open Cert.Quant (step)

/-- The code of a new row at head `h` and column `e`: the row times the inverse step of the head's scale, clipped to the range of the codes. -/
def code (new : Fin 64 → Fin 4 → Fin 64 → EReal) (w : Fin 4 → BitVec 32) (b : Fin 64) (h : Fin 4) (e : Fin 64) : EReal :=
  min (Ideal.ofBits .f32 0x43E00000#32) (max (Ideal.ofBits .f32 0xC3E00000#32) (new b h e * step (w h)))

/-- The code times the head's scale. -/
def deq (new : Fin 64 → Fin 4 → Fin 64 → EReal) (w : Fin 4 → BitVec 32) (b : Fin 64) (h : Fin 4) (e : Fin 64) : EReal :=
  code new w b h e * Ideal.ofBits .f32 (w h)

/-- The head of a row of queries. -/
def head (r : Fin 32) : Fin 4 := ⟨r / 8, by omega⟩

/-- Column `e` of row `r` of the queries. -/
def qcol (r : Fin 32) (e : Fin 64) : Fin 2048 := ⟨64 * r + e, by omega⟩

/-- The attention of row `r` of batch element `b`, at column `d`. -/
def out (q : Fin 64 → Fin 2048 → EReal) (kn vn : Fin 64 → Fin 4 → Fin 64 → EReal) (kw vw : Fin 4 → BitVec 32)
    (kc vc : Fin 64 → Fin 32768 → Fin 4 → Fin 64 → EReal) (b : Fin 64) (r : Fin 32) (d : Fin 64) : EReal :=
  attend (fun j => (∑ e : Fin 64, q b (qcol r e) * (kc b j (head r) e * Ideal.ofBits .f32 (kw (head r)))) * Ideal.ofBits .f32 0x3E000000#32)
    (fun j => vc b j (head r) d * Ideal.ofBits .f32 (vw (head r)))
    ((∑ e : Fin 64, q b (qcol r e) * deq kn kw b (head r) e) * Ideal.ofBits .f32 0x3E000000#32)
    (deq vn vw b (head r) d)

/-- A sum over all columns of a row that is zero outside its head's columns is the sum over those. -/
theorem own_sum (h : Fin 4) (f g : Fin 256 → EReal) (hf : ∀ x : Fin 256, (x : ℕ) / 64 ≠ h → f x = 0) :
    ∑ x, f x * g x = ∑ e : Fin 64, f ⟨64 * h + e, by omega⟩ * g ⟨64 * h + e, by omega⟩ := by
  symm
  refine Finset.sum_of_injOn (fun e : Fin 64 => (⟨64 * h + e, by omega⟩ : Fin 256)) ?_ ?_ ?_ ?_
  · intro a _ b _ hab
    have := congrArg Fin.val hab
    apply Fin.ext
    dsimp only at this
    omega
  · intro a _; exact Finset.mem_coe.mpr (Finset.mem_univ _)
  · intro x _ hx
    rw [hf x, zero_mul]
    intro hh
    apply hx
    refine ⟨⟨x - 64 * h, by omega⟩, Finset.mem_coe.mpr (Finset.mem_univ _), Fin.ext ?_⟩
    show 64 * (h : ℕ) + (x - 64 * h) = x
    omega
  · intro a _; rfl

end Cert.Spec
-- ==== Proof.KValue.lean ====
/- What the kernel leaves in its results, as a function of its arguments. -/
module

public import proofs.«01_k».proof.Proof.KDat
public import proofs.«01_k».proof.Proof.Spec

@[expose] public section

set_option maxRecDepth 16384

noncomputable section

namespace Cert.KernelIdeal.Gen

open Idealize.ShloMosaic Idealize.ShloMosaic.TcCoe Idealize.ShloMosaic.Tactic
open Idealize.SL.Sem
open Cert.Attend (attend)
open Cert.Quant (step stepWord kernel_step)
open Cert.Spec (code deq out head qcol own_sum)

/-- The code of a new key. -/
theorem pay2_at (x : Vec Ideal S64x256 .bf16) (w : Vec Ideal S1x256 .i32) (b : Fin 64) (c : Fin 256) :
    k0_pay2 (F := Ideal) x w (ix2 b c) = min (Ideal.ofBits .f32 0x43E00000#32) (max (Ideal.ofBits .f32 0xC3E00000#32) (x (ix2 b c) * step (w (ix2 0 c)))) := by
  pointwise [k0_pay2]
  rw [← kernel_step]
  rfl

/-- The code of a new value. -/
theorem pay5_at (x : Vec Ideal S64x256 .bf16) (w : Vec Ideal S1x256 .i32) (b : Fin 64) (c : Fin 256) :
    k0_pay5 (F := Ideal) x w (ix2 b c) = min (Ideal.ofBits .f32 0x43E00000#32) (max (Ideal.ofBits .f32 0xC3E00000#32) (x (ix2 b c) * step (w (ix2 0 c)))) := by
  pointwise [k0_pay5]
  rw [← kernel_step]
  rfl

/-- The dequantised new key. -/
theorem newK_at (x : Vec Ideal S64x256 .bf16) (w : Vec Ideal S1x256 .i32) (b : Fin 64) (c : Fin 256) :
    newK x w (ix2 b c) = k0_pay2 (F := Ideal) x w (ix2 b c) * Ideal.ofBits .f32 (w (ix2 0 c)) := by
  pointwise [newK, k0_pay4, k0_pay3]

/-- The dequantised new value. -/
theorem newV_at (x : Vec Ideal S64x256 .bf16) (w : Vec Ideal S1x256 .i32) (b : Fin 64) (c : Fin 256) :
    newV x w (ix2 b c) = k0_pay5 (F := Ideal) x w (ix2 b c) * Ideal.ofBits .f32 (w (ix2 0 c)) := by
  pointwise [newV, k0_pay37, k0_pay6]

variable (m : (ℓ : Loc nD τ sig) → Buf (Elt Ideal) ℓ)

/-- The queries of the run. -/
def aq (c : Dev nD) : Fin 64 → Fin 2048 → EReal := fun b x => (m ((c : Thread nD τ).loc main_arg0) : Vec Ideal S64x1x2048 .bf16) (ix3 b 0 x)
/-- The new keys of the run. -/
def akn (c : Dev nD) : Fin 64 → Fin 4 → Fin 64 → EReal := fun b h e => (m ((c : Thread nD τ).loc main_arg1) : Vec Ideal S64x1x4x64 .bf16) (ix4 b 0 h e)
/-- The new values of the run. -/
def avn (c : Dev nD) : Fin 64 → Fin 4 → Fin 64 → EReal := fun b h e => (m ((c : Thread nD τ).loc main_arg2) : Vec Ideal S64x1x4x64 .bf16) (ix4 b 0 h e)
/-- The words of the key scales of the run. -/
def akw (c : Dev nD) : Fin 4 → BitVec 32 := fun h => (m ((c : Thread nD τ).loc main_arg4) : Vec Ideal S4 .i32) (ix1 h)
/-- The words of the value scales of the run. -/
def avw (c : Dev nD) : Fin 4 → BitVec 32 := fun h => (m ((c : Thread nD τ).loc main_arg6) : Vec Ideal S4 .i32) (ix1 h)
/-- The key codes of the run. -/
def akc (c : Dev nD) : Fin 64 → Fin 32768 → Fin 4 → Fin 64 → EReal := fun b j h e => (m ((c : Thread nD τ).loc main_arg3) : Vec Ideal S64x32768x4x64 .fp8e4m3) (ix4 b j h e)
/-- The value codes of the run. -/
def avc (c : Dev nD) : Fin 64 → Fin 32768 → Fin 4 → Fin 64 → EReal := fun b j h e => (m ((c : Thread nD τ).loc main_arg5) : Vec Ideal S64x32768x4x64 .fp8e4m3) (ix4 b j h e)

/-- The head of a column. -/
def hd (x : Fin 256) : Fin 4 := ⟨x / 64, by omega⟩
/-- The place of a column in its head. -/
def pl (x : Fin 256) : Fin 64 := ⟨x % 64, by omega⟩

theorem kcW_at (c : Dev nD) (b : Fin 64) (x : Fin 256) : (kcW m c) (ix2 b x) = code (akn m c) (akw m c) b (hd x) (pl x) := by
  unfold kcW
  rw [pay2_at]
  have h1 : (knA m c) (ix2 b x) = akn m c b (hd x) (pl x) := entry_kn m c b x
  have h2 : (kwA m c) (ix2 0 x) = akw m c (hd x) := entry_ks m c x
  rw [h1, h2]
  rfl

theorem vcW_at (c : Dev nD) (b : Fin 64) (x : Fin 256) : (vcW m c) (ix2 b x) = code (avn m c) (avw m c) b (hd x) (pl x) := by
  unfold vcW
  rw [pay5_at]
  have h1 : (vnA m c) (ix2 b x) = avn m c b (hd x) (pl x) := entry_vn m c b x
  have h2 : (vwA m c) (ix2 0 x) = avw m c (hd x) := entry_vs m c x
  rw [h1, h2]
  rfl

theorem kdW_at (c : Dev nD) (b : Fin 64) (x : Fin 256) : (kdW m c) (ix2 b x) = deq (akn m c) (akw m c) b (hd x) (pl x) := by
  unfold kdW
  rw [newK_at, show Ideal.ofBits .f32 ((kwA m c) (ix2 0 x)) = Ideal.ofBits .f32 (akw m c (hd x)) from congrArg _ (entry_ks m c x)]
  exact congrArg (· * _) (kcW_at m c b x)

theorem vdW_at (c : Dev nD) (b : Fin 64) (x : Fin 256) : (vdW m c) (ix2 b x) = deq (avn m c) (avw m c) b (hd x) (pl x) := by
  unfold vdW
  rw [newV_at, show Ideal.ofBits .f32 ((vwA m c) (ix2 0 x)) = Ideal.ofBits .f32 (avw m c (hd x)) from congrArg _ (entry_vs m c x)]
  exact congrArg (· * _) (vcW_at m c b x)

/-- Where the row of a grid point lies. -/
theorem off9_eq : ∀ t : Fin cfg0.N, k0_off9 (grid0.coords t) = ![t.val, 0] :=
  (by decide +kernel : ∀ t : Fin grid0.N, _)

/-- The row of a grid point is its batch element's. -/
theorem rowOf_at (v : Vec Ideal S64x256 .f32) (t : Fin cfg0.N) (x : Fin 256) : rowOf v (grid0.coords t) (ix2 0 x) = v (ix2 (batch t) x) := by
  unfold rowOf batch
  refine congrArg v (funext fun a => Fin.ext ?_)
  have h9 := off9_eq t
  match a with
  | 0 => show k0_off9 (grid0.coords t) 0 + 1 * 0 = t.val; rw [h9]; rfl
  | 1 => show k0_off9 (grid0.coords t) 1 + 1 * x.val = x.val; rw [h9]; show 0 + 1 * x.val = x.val; omega

/-- A row's own columns have the row's head. -/
theorem hd_col (r : Fin 32) (e : Fin 64) : hd (col r e) = head r := by
  apply Fin.ext
  show (64 * ((r : ℕ) / 8) + e) / 64 = r / 8
  omega

/-- A row's own columns lie in its head in order. -/
theorem pl_col (r : Fin 32) (e : Fin 64) : pl (col r e) = e := by
  apply Fin.ext
  show (64 * ((r : ℕ) / 8) + e) % 64 = e
  omega

/-- Attention over a block whose entries are those of batch element `b`. -/
theorem blockY_eq (ks vs : Vec Ideal S4 .i32) (q : Vec Ideal S1x32x256 .bf16) (kd vd : Vec Ideal S1x256 .f32) (K V : Vec Ideal S1x256x32768 .fp8e4m3)
    (Q : Fin 64 → Fin 2048 → EReal) (kn vn : Fin 64 → Fin 4 → Fin 64 → EReal) (kw vw : Fin 4 → BitVec 32) (kc vc : Fin 64 → Fin 32768 → Fin 4 → Fin 64 → EReal)
    (b : Fin 64) (r : Fin 32) (d : Fin 64)
    (hks : ∀ x : Fin 256, headScale ks x = Ideal.ofBits .f32 (kw (hd x))) (hvs : ∀ x : Fin 256, headScale vs x = Ideal.ofBits .f32 (vw (hd x)))
    (hq : ∀ e, q (ix3 0 r (col r e)) = Q b (qcol r e)) (hz : ∀ x : Fin 256, (x : ℕ) / 64 ≠ r / 8 → q (ix3 0 r x) = (0 : EReal))
    (hk : ∀ x j, K (ix3 0 x j) = kc b j (hd x) (pl x)) (hv : ∀ x j, V (ix3 0 x j) = vc b j (hd x) (pl x))
    (hkd : ∀ x, kd (ix2 0 x) = deq kn kw b (hd x) (pl x)) (hvd : ∀ x, vd (ix2 0 x) = deq vn vw b (hd x) (pl x)) :
    blockY ks vs q kd vd K V r d = out Q kn vn kw vw kc vc b r d := by
  have hown (g : Fin 256 → EReal) : ∑ x, q (ix3 0 r x) * g x = ∑ e, Q b (qcol r e) * g (col r e) := by
    rw [own_sum (head r) (fun x => q (ix3 0 r x)) g (fun x hx => hz x hx)]
    exact Finset.sum_congr rfl fun e _ => congrArg (· * g (col r e)) (hq e)
  unfold blockY out
  congr 1
  · funext j
    rw [hown (fun x => K (ix3 0 x j) * headScale ks x)]
    refine congrArg (· * Ideal.ofBits .f32 0x3E000000#32) (Finset.sum_congr rfl fun e _ => ?_)
    rw [hk, hks, hd_col, pl_col]
  · funext j
    rw [hv, hvs, hd_col, pl_col]
  · rw [hown (fun x => kd (ix2 0 x))]
    refine congrArg (· * Ideal.ofBits .f32 0x3E000000#32) (Finset.sum_congr rfl fun e _ => ?_)
    rw [hkd, hd_col, pl_col]
  · rw [hvd, hd_col, pl_col]

/-- The attention result of a grid point is its batch element's. -/
theorem yW_at (c : Dev nD) (t : Fin cfg0.N) (r : Fin 32) (d : Fin 64) :
    (yW m c t) (ix3 0 r d) = out (aq m c) (akn m c) (avn m c) (akw m c) (avw m c) (akc m c) (avc m c) (batch t) r d := by
  refine blockY_eq _ _ _ _ _ _ _ _ _ _ _ _ _ _ _ r d ?_ ?_ ?_ ?_ ?_ ?_ ?_ ?_
  · intro x; rw [iblk_0]; exact headScale_ks m c x
  · intro x; rw [iblk_1]; exact headScale_vs m c x
  · intro e
    rw [iblk_2_at, entry_q]
    refine (if_pos (by show (64 * ((r : ℕ) / 8) + e) / 64 = r / 8; omega)).trans ?_
    refine congrArg (fun k => (m ((c : Thread nD τ).loc main_arg0) : Vec Ideal S64x1x2048 .bf16) (ix3 (batch t) 0 k)) (Fin.ext ?_)
    show 64 * (r : ℕ) + (64 * (r / 8) + e) % 64 = 64 * r + e
    omega
  · intro x hx; exact own_head m c t r x hx
  · intro x j; rw [iblk_7_at]; exact entry_kc m c (batch t) x j
  · intro x j; rw [iblk_8_at]; exact entry_vc m c (batch t) x j
  · intro x; rw [rowOf_at]; exact kdW_at m c (batch t) x
  · intro x; rw [rowOf_at]; exact vdW_at m c (batch t) x

/-- The attention results of the run. -/
def yAll (c : Dev nD) : Vec Ideal S64x32x64 .bf16 := fun i =>
  out (aq m c) (akn m c) (avn m c) (akw m c) (avw m c) (akc m c) (avc m c) (i 0) (i 1) (i 2)

theorem final9 (c : Dev nD) : (dats m 0 c).arrAt 9 cfg0.N = yAll m c := by
  refine (dats m 0 c).arrAt_eq_of_covers 9 _ (by decide +kernel) fun t _ y => ?_
  blk_simp
  rw [after0_9]
  idx_vars y
  have e (i : S64x32x64.Idx) (h0 : (i 0 : ℕ) = t) (h1 : (i 1 : ℕ) = y1) (h2 : (i 2 : ℕ) = y2) : yW m c t (ix3 y0 y1 y2) = yAll m c i := by
    refine (yW_at m c t y1 y2).trans ?_
    unfold yAll
    rw [show i 0 = batch t from Fin.ext h0, show i 1 = y1 from Fin.ext h1, show i 2 = y2 from Fin.ext h2]
  refine e _ ?_ ?_ ?_ <;> blk_simp [idx t]

theorem final10 (c : Dev nD) : (dats m 0 c).arrAt 10 cfg0.N = kcW m c := by
  refine (dats m 0 c).arrAt_eq_of_covers 10 _ (by decide +kernel) fun t _ y => ?_
  blk_simp
  rw [after0_10]
  blk_ext [idx t]

theorem final11 (c : Dev nD) : (dats m 0 c).arrAt 11 cfg0.N = vcW m c := by
  refine (dats m 0 c).arrAt_eq_of_covers 11 _ (by decide +kernel) fun t _ y => ?_
  blk_simp
  rw [after0_11]
  blk_ext [idx t]

end Cert.KernelIdeal.Gen

end
-- ==== Proof.HostR.lean ====
/- The arrays that the reference's host operations hand to its program, entry by entry. -/
module

public import proofs.«01_k».proof.Proof.Gen.ReferenceIdeal.Value
public import Idealize.ShloMosaic.Lib.Pipeline.ValueKit
public import Idealize.ShloMosaic.Lib.Pointwise
public import Idealize.ShloMosaic.Lib.Claim
public import proofs.«01_k».proof.Proof.Quant

@[expose] public section

set_option maxRecDepth 16384

noncomputable section

namespace Cert.ReferenceIdeal.Gen

open Idealize.ShloMosaic Idealize.ShloMosaic.TcCoe Idealize.ShloMosaic.Tactic
open Idealize.SL.Sem

variable (m : (ℓ : Loc nD τ sig) → Buf (Elt Ideal) ℓ)

/-- The query, eight rows for each batch element and head. -/
theorem entry_q (c : Dev nD) (R : Fin 256) (g : Fin 8) (e : Fin 64) :
    (V m c main_v2 : Vec Ideal S256x8x64 .bf16) (ix3 R g e) = (m ((c : Thread nD τ).loc main_arg0) : Vec Ideal S64x1x2048 .bf16) (ix3 ⟨R / 4, by omega⟩ 0 ⟨512 * (R % 4) + 64 * g + e, by omega⟩) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise
  congr 3; omega

/-- The new keys, one row for each batch element and head. -/
theorem entry_kn (c : Dev nD) (R : Fin 256) (e : Fin 64) :
    (V m c main_v3 : Vec Ideal S256x64 .bf16) (ix2 R e) = (m ((c : Thread nD τ).loc main_arg1) : Vec Ideal S64x1x4x64 .bf16) (ix4 ⟨R / 4, by omega⟩ 0 ⟨R % 4, by omega⟩ e) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise

/-- The new values, one row for each batch element and head. -/
theorem entry_vn (c : Dev nD) (R : Fin 256) (e : Fin 64) :
    (V m c main_v4 : Vec Ideal S256x64 .bf16) (ix2 R e) = (m ((c : Thread nD τ).loc main_arg2) : Vec Ideal S64x1x4x64 .bf16) (ix4 ⟨R / 4, by omega⟩ 0 ⟨R % 4, by omega⟩ e) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise

/-- The inverse step of the key scale of each row's head. -/
theorem entry_ki (c : Dev nD) (R : Fin 256) :
    (V m c main_v38 : Vec Ideal S256x1 .f32) (ix2 R 0) = Cert.Quant.step ((m ((c : Thread nD τ).loc main_arg4) : Vec Ideal S4 .i32) (ix1 ⟨R % 4, by omega⟩)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.toBuf, StableHlo.TRef.ofBuf, cast_eq]
  pointwise
  exact Cert.Quant.reference_step ((m ((c : Thread nD τ).loc main_arg4) : Vec Ideal S4 .i32) (ix1 ⟨R % 4, by omega⟩))

/-- The inverse step of the value scale of each row's head. -/
theorem entry_vi (c : Dev nD) (R : Fin 256) :
    (V m c main_v72 : Vec Ideal S256x1 .f32) (ix2 R 0) = Cert.Quant.step ((m ((c : Thread nD τ).loc main_arg6) : Vec Ideal S4 .i32) (ix1 ⟨R % 4, by omega⟩)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  simp only [StableHlo.TRef.toBuf, StableHlo.TRef.ofBuf, cast_eq]
  pointwise
  exact Cert.Quant.reference_step ((m ((c : Thread nD τ).loc main_arg6) : Vec Ideal S4 .i32) (ix1 ⟨R % 4, by omega⟩))

/-- The key scale of each row's head. -/
theorem entry_ks (c : Dev nD) (R : Fin 256) :
    (V m c main_v76 : Vec Ideal S256x1 .f32) (ix2 R 0) = Ideal.ofBits .f32 ((m ((c : Thread nD τ).loc main_arg4) : Vec Ideal S4 .i32) (ix1 ⟨R % 4, by omega⟩)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise

/-- The value scale of each row's head. -/
theorem entry_vs (c : Dev nD) (R : Fin 256) :
    (V m c main_v80 : Vec Ideal S256x1 .f32) (ix2 R 0) = Ideal.ofBits .f32 ((m ((c : Thread nD τ).loc main_arg6) : Vec Ideal S4 .i32) (ix1 ⟨R % 4, by omega⟩)) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise

/-- The key codes, one array for each batch element and head. -/
theorem entry_kc (c : Dev nD) (R : Fin 256) (j : Fin 32768) (e : Fin 64) :
    (V m c main_v82 : Vec Ideal S256x32768x64 .fp8e4m3) (ix3 R j e) = (m ((c : Thread nD τ).loc main_arg3) : Vec Ideal S64x32768x4x64 .fp8e4m3) (ix4 ⟨R / 4, by omega⟩ j ⟨R % 4, by omega⟩ e) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise

/-- The value codes, one array for each batch element and head. -/
theorem entry_vc (c : Dev nD) (R : Fin 256) (j : Fin 32768) (e : Fin 64) :
    (V m c main_v84 : Vec Ideal S256x32768x64 .fp8e4m3) (ix3 R j e) = (m ((c : Thread nD τ).loc main_arg5) : Vec Ideal S64x32768x4x64 .fp8e4m3) (ix4 ⟨R / 4, by omega⟩ j ⟨R % 4, by omega⟩ e) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise

end Cert.ReferenceIdeal.Gen

end
-- ==== Proof.RefValue.lean ====
/- What the reference leaves in its results, as a function of its arguments. -/
module

public import proofs.«01_k».proof.Proof.HostR
public import proofs.«01_k».proof.Proof.Spec

@[expose] public section

set_option maxRecDepth 16384

noncomputable section

namespace Cert.ReferenceIdeal.Gen

open Idealize.ShloMosaic Idealize.ShloMosaic.TcCoe Idealize.ShloMosaic.Tactic
open Idealize.SL.Sem
open Cert.Attend (attend)
open Cert.Quant (step)
open Cert.Spec (code deq out head qcol)

/-- The row of batch element `b` and head `h`. -/
def row (b : Fin 64) (h : Fin 4) : Fin 256 := ⟨b * 4 + h, by omega⟩

/-- The code of a new key. -/
theorem pay3_at (x : Vec Ideal S256x64 .bf16) (w : Vec Ideal S256x1 .f32) (R : Fin 256) (e : Fin 64) :
    k0_pay3 (F := Ideal) x w (ix2 R e) = min (Ideal.ofBits .f32 0x43E00000#32) (max (Ideal.ofBits .f32 0xC3E00000#32) (x (ix2 R e) * w (ix2 R 0))) := by
  pointwise [k0_pay3]

/-- The code of a new value. -/
theorem pay4_at (x : Vec Ideal S256x64 .bf16) (w : Vec Ideal S256x1 .f32) (R : Fin 256) (e : Fin 64) :
    k0_pay4 (F := Ideal) x w (ix2 R e) = min (Ideal.ofBits .f32 0x43E00000#32) (max (Ideal.ofBits .f32 0xC3E00000#32) (x (ix2 R e) * w (ix2 R 0))) := by
  pointwise [k0_pay4]

/-- The key codes, one row per batch element. -/
theorem pay5_at (x : Vec Ideal S256x64 .bf16) (w : Vec Ideal S256x1 .f32) (b : Fin 64) (y : Fin 256) :
    k0_pay5 (F := Ideal) x w (ix2 b y) = k0_pay3 (F := Ideal) x w (ix2 (row b ⟨y / 64, by omega⟩) ⟨y % 64, by omega⟩) := by
  pointwise [k0_pay5]
  rfl

/-- The value codes, one row per batch element. -/
theorem pay6_at (x : Vec Ideal S256x64 .bf16) (w : Vec Ideal S256x1 .f32) (b : Fin 64) (y : Fin 256) :
    k0_pay6 (F := Ideal) x w (ix2 b y) = k0_pay4 (F := Ideal) x w (ix2 (row b ⟨y / 64, by omega⟩) ⟨y % 64, by omega⟩) := by
  pointwise [k0_pay6]
  rfl

/-- The dequantised new keys. -/
theorem pay7_at (x : Vec Ideal S256x64 .bf16) (w s : Vec Ideal S256x1 .f32) (R : Fin 256) (e : Fin 64) :
    k0_pay7 (F := Ideal) x w s (ix2 R e) = k0_pay3 (F := Ideal) x w (ix2 R e) * s (ix2 R 0) := by
  pointwise [k0_pay7]

/-- The dequantised new values. -/
theorem pay8_at (v : FVec Ideal S256x64 .fp8e4m3) (s : Vec Ideal S256x1 .f32) (R : Fin 256) (e : Fin 64) :
    k0_pay8 (F := Ideal) v s (ix2 R e) = v (ix2 R e) * s (ix2 R 0) := by
  pointwise [k0_pay8]

/-- The dequantised cached values. -/
theorem pay9_at (V : Vec Ideal S256x32768x64 .fp8e4m3) (s : Vec Ideal S256x1 .f32) (R : Fin 256) (j : Fin 32768) (e : Fin 64) :
    k0_pay9 (F := Ideal) V s (ix3 R j e) = V (ix3 R j e) * s (ix2 R 0) := by
  pointwise [k0_pay9]

/-- The scores of the cached rows. -/
theorem pay10_at (q : FVec Ideal S256x8x64 .bf16) (K : Vec Ideal S256x32768x64 .fp8e4m3) (ks : Vec Ideal S256x1 .f32) (R : Fin 256) (g : Fin 8) (j : Fin 32768) :
    k0_pay10 (F := Ideal) q K ks (ix3 R g j) = (∑ e, q (ix3 R g e) * (K (ix3 R j e) * ks (ix2 R 0))) * Ideal.ofBits .f32 0x3E000000#32 := by
  pointwise [k0_pay10]

/-- The score of the new row. -/
theorem pay11_at (q : FVec Ideal S256x8x64 .bf16) (kd : FVec Ideal S256x64 .bf16) (R : Fin 256) (g : Fin 8) :
    k0_pay11 (F := Ideal) q kd (ix3 R g 0) = (∑ e, q (ix3 R g e) * kd (ix2 R e)) * Ideal.ofBits .f32 0x3E000000#32 := by
  pointwise [k0_pay11]

/-- The maximum along the last axis is the least upper bound of the entries. -/
theorem rowmax (n : ℕ) (X : FVec Ideal ⟨3, ![256, 8, n]⟩ .f32) (h : (⟨3, ![256, 8, n]⟩ : Shape).Reduces [2] S256x8) (hφ : FKind.Formats .f32)
    (hacc : 0xFF800000#32 = FKind.maximumf.neutral .f32 hφ) (R : Fin 256) (g : Fin 8) :
    multiReduction .maximumf [2] S256x8 X 0xFF800000#32 h hφ hacc (ix2 R g) = Finset.univ.fold max (⊥ : EReal) fun j => X (ix3 R g j) := by
  rw [multiReduction_maximumf_eq_fold, Shape.Reduces.fold_fiber_r3_a2, ← Cert.Quant.ofBits_bot]
  rfl

/-- The greatest score is that of the cached rows against that of the new row. -/
theorem pay12_eq (q : FVec Ideal S256x8x64 .bf16) (kd : FVec Ideal S256x64 .bf16) (K : Vec Ideal S256x32768x64 .fp8e4m3) (ks : Vec Ideal S256x1 .f32)
    (u : FVec Ideal S256x8 .f32) (hu : u = (multiReduction .maximumf [2] S256x8 (k0_pay10 (F := Ideal) q K ks) 0xFF800000#32 reduces_S256x8x32768_S256x8 (.inl rfl) rfl)) :
    k0_pay12 (F := Ideal) q kd K ks = maximumf (shapeCast S256x8x1 u shapeCasts_S256x8_S256x8x1) (k0_pay11 (F := Ideal) q kd) := by
  rw [hu]; rfl

/-- The greatest score of the cached rows. -/
theorem rowmax_at (q : FVec Ideal S256x8x64 .bf16) (K : Vec Ideal S256x32768x64 .fp8e4m3) (ks : Vec Ideal S256x1 .f32) (R : Fin 256) (g : Fin 8) :
    (multiReduction .maximumf [2] S256x8 (k0_pay10 (F := Ideal) q K ks) 0xFF800000#32 reduces_S256x8x32768_S256x8 (.inl rfl) rfl) (ix2 R g)
      = Finset.univ.fold max (⊥ : EReal) fun j : Fin 32768 => k0_pay10 (F := Ideal) q K ks (ix3 R g j) :=
  rowmax 32768 (k0_pay10 (F := Ideal) q K ks) _ _ _ R g

/-- The greater of two columns, at a place. -/
theorem max_at (u : FVec Ideal S256x8 .f32) (w : FVec Ideal S256x8x1 .f32) (R : Fin 256) (g : Fin 8) :
    maximumf (shapeCast S256x8x1 u shapeCasts_S256x8_S256x8x1) w (ix3 R g 0) = max (u (ix2 R g)) (w (ix3 R g 0)) := by
  pointwise

/-- The greatest score. -/
theorem pay12_at (q : FVec Ideal S256x8x64 .bf16) (kd : FVec Ideal S256x64 .bf16) (K : Vec Ideal S256x32768x64 .fp8e4m3) (ks : Vec Ideal S256x1 .f32) (R : Fin 256) (g : Fin 8) :
    k0_pay12 (F := Ideal) q kd K ks (ix3 R g 0)
      = max (Finset.univ.fold max (⊥ : EReal) fun j : Fin 32768 => k0_pay10 (F := Ideal) q K ks (ix3 R g j)) (k0_pay11 (F := Ideal) q kd (ix3 R g 0)) := by
  rw [pay12_eq q kd K ks _ rfl, max_at, rowmax_at]

/-- The weights of the cached rows. -/
theorem pay13_at (q : FVec Ideal S256x8x64 .bf16) (kd : FVec Ideal S256x64 .bf16) (K : Vec Ideal S256x32768x64 .fp8e4m3) (ks : Vec Ideal S256x1 .f32) (R : Fin 256) (g : Fin 8) (j : Fin 32768) :
    k0_pay13 (F := Ideal) q kd K ks (ix3 R g j) = Ideal.exp (k0_pay10 (F := Ideal) q K ks (ix3 R g j) - k0_pay12 (F := Ideal) q kd K ks (ix3 R g 0)) := by
  pointwise [k0_pay13]

/-- The weight of the new row. -/
theorem pay14_at (q : FVec Ideal S256x8x64 .bf16) (kd : FVec Ideal S256x64 .bf16) (K : Vec Ideal S256x32768x64 .fp8e4m3) (ks : Vec Ideal S256x1 .f32) (R : Fin 256) (g : Fin 8) :
    k0_pay14 (F := Ideal) q kd K ks (ix3 R g 0) = Ideal.exp (k0_pay11 (F := Ideal) q kd (ix3 R g 0) - k0_pay12 (F := Ideal) q kd K ks (ix3 R g 0)) := by
  pointwise [k0_pay14]

/-- The row's place in its head. -/
def grp (r : Fin 32) : Fin 8 := ⟨r % 8, by omega⟩

/-- The weighted mean. -/
theorem pay1_at (vd : FVec Ideal S256x64 .bf16) (v : FVec Ideal S256x32768x64 .bf16) (p : FVec Ideal S256x8x32768 .f32) (pn : FVec Ideal S256x8x1 .f32) (b : Fin 64) (r : Fin 32) (d : Fin 64) :
    k0_pay1 (F := Ideal) vd v p pn (ix3 b r d)
      = Ideal.div ((∑ j, p (ix3 (row b (head r)) (grp r) j) * v (ix3 (row b (head r)) j d)) + pn (ix3 (row b (head r)) (grp r) 0) * vd (ix2 (row b (head r)) d))
          ((∑ j, p (ix3 (row b (head r)) (grp r) j)) + pn (ix3 (row b (head r)) (grp r) 0)) := by
  pointwise [k0_pay1]
  rfl

variable (m : (ℓ : Loc nD τ sig) → Buf (Elt Ideal) ℓ)

/-- The queries of the run. -/
def aq (c : Dev nD) : Fin 64 → Fin 2048 → EReal := fun b x => (m ((c : Thread nD τ).loc main_arg0) : Vec Ideal S64x1x2048 .bf16) (ix3 b 0 x)
/-- The new keys of the run. -/
def akn (c : Dev nD) : Fin 64 → Fin 4 → Fin 64 → EReal := fun b h e => (m ((c : Thread nD τ).loc main_arg1) : Vec Ideal S64x1x4x64 .bf16) (ix4 b 0 h e)
/-- The new values of the run. -/
def avn (c : Dev nD) : Fin 64 → Fin 4 → Fin 64 → EReal := fun b h e => (m ((c : Thread nD τ).loc main_arg2) : Vec Ideal S64x1x4x64 .bf16) (ix4 b 0 h e)
/-- The words of the key scales of the run. -/
def akw (c : Dev nD) : Fin 4 → BitVec 32 := fun h => (m ((c : Thread nD τ).loc main_arg4) : Vec Ideal S4 .i32) (ix1 h)
/-- The words of the value scales of the run. -/
def avw (c : Dev nD) : Fin 4 → BitVec 32 := fun h => (m ((c : Thread nD τ).loc main_arg6) : Vec Ideal S4 .i32) (ix1 h)
/-- The key codes of the run. -/
def akc (c : Dev nD) : Fin 64 → Fin 32768 → Fin 4 → Fin 64 → EReal := fun b j h e => (m ((c : Thread nD τ).loc main_arg3) : Vec Ideal S64x32768x4x64 .fp8e4m3) (ix4 b j h e)
/-- The value codes of the run. -/
def avc (c : Dev nD) : Fin 64 → Fin 32768 → Fin 4 → Fin 64 → EReal := fun b j h e => (m ((c : Thread nD τ).loc main_arg5) : Vec Ideal S64x32768x4x64 .fp8e4m3) (ix4 b j h e)

theorem row_div (b : Fin 64) (h : Fin 4) : (⟨(row b h : Fin 256) / 4, by omega⟩ : Fin 64) = b := by
  apply Fin.ext; show ((b : ℕ) * 4 + h) / 4 = b; omega
theorem row_mod (b : Fin 64) (h : Fin 4) : (⟨(row b h : Fin 256) % 4, by omega⟩ : Fin 4) = h := by
  apply Fin.ext; show ((b : ℕ) * 4 + h) % 4 = h; omega

theorem q_at (c : Dev nD) (b : Fin 64) (r : Fin 32) (e : Fin 64) :
    (V m c main_v2 : Vec Ideal S256x8x64 .bf16) (ix3 (row b (head r)) (grp r) e) = aq m c b (qcol r e) := by
  rw [entry_q]
  unfold aq
  rw [row_div]
  refine congrArg (fun k => (m ((c : Thread nD τ).loc main_arg0) : Vec Ideal S64x1x2048 .bf16) (ix3 b 0 k)) (Fin.ext ?_)
  show 512 * (((b : ℕ) * 4 + r / 8) % 4) + 64 * (r % 8) + e = 64 * r + e
  omega

theorem kn_at (c : Dev nD) (b : Fin 64) (h : Fin 4) (e : Fin 64) :
    (V m c main_v3 : Vec Ideal S256x64 .bf16) (ix2 (row b h) e) = akn m c b h e := by
  rw [entry_kn, row_div, row_mod]; rfl

theorem vn_at (c : Dev nD) (b : Fin 64) (h : Fin 4) (e : Fin 64) :
    (V m c main_v4 : Vec Ideal S256x64 .bf16) (ix2 (row b h) e) = avn m c b h e := by
  rw [entry_vn, row_div, row_mod]; rfl

theorem ki_at (c : Dev nD) (b : Fin 64) (h : Fin 4) : (V m c main_v38 : Vec Ideal S256x1 .f32) (ix2 (row b h) 0) = step (akw m c h) := by
  rw [entry_ki, row_mod]; rfl

theorem vi_at (c : Dev nD) (b : Fin 64) (h : Fin 4) : (V m c main_v72 : Vec Ideal S256x1 .f32) (ix2 (row b h) 0) = step (avw m c h) := by
  rw [entry_vi, row_mod]; rfl

theorem ks_at (c : Dev nD) (b : Fin 64) (h : Fin 4) : (V m c main_v76 : Vec Ideal S256x1 .f32) (ix2 (row b h) 0) = Ideal.ofBits .f32 (akw m c h) := by
  rw [entry_ks, row_mod]; rfl

theorem vs_at (c : Dev nD) (b : Fin 64) (h : Fin 4) : (V m c main_v80 : Vec Ideal S256x1 .f32) (ix2 (row b h) 0) = Ideal.ofBits .f32 (avw m c h) := by
  rw [entry_vs, row_mod]; rfl

theorem kc_at (c : Dev nD) (b : Fin 64) (h : Fin 4) (j : Fin 32768) (e : Fin 64) :
    (V m c main_v82 : Vec Ideal S256x32768x64 .fp8e4m3) (ix3 (row b h) j e) = akc m c b j h e := by
  rw [entry_kc, row_div, row_mod]; rfl

theorem vc_at (c : Dev nD) (b : Fin 64) (h : Fin 4) (j : Fin 32768) (e : Fin 64) :
    (V m c main_v84 : Vec Ideal S256x32768x64 .fp8e4m3) (ix3 (row b h) j e) = avc m c b j h e := by
  rw [entry_vc, row_div, row_mod]; rfl

/-- The reference's codes, in the row of a batch element and head. -/
theorem code3 (x : Vec Ideal S256x64 .bf16) (w : Vec Ideal S256x1 .f32) (new : Fin 64 → Fin 4 → Fin 64 → EReal) (ws : Fin 4 → BitVec 32) (b : Fin 64) (h : Fin 4) (e : Fin 64)
    (hx : x (ix2 (row b h) e) = new b h e) (hw : w (ix2 (row b h) 0) = step (ws h)) :
    k0_pay3 (F := Ideal) x w (ix2 (row b h) e) = code new ws b h e := by
  rw [pay3_at, hx, hw]; rfl

/-- The reference's codes of the values, in the row of a batch element and head. -/
theorem code4 (x : Vec Ideal S256x64 .bf16) (w : Vec Ideal S256x1 .f32) (new : Fin 64 → Fin 4 → Fin 64 → EReal) (ws : Fin 4 → BitVec 32) (b : Fin 64) (h : Fin 4) (e : Fin 64)
    (hx : x (ix2 (row b h) e) = new b h e) (hw : w (ix2 (row b h) 0) = step (ws h)) :
    k0_pay4 (F := Ideal) x w (ix2 (row b h) e) = code new ws b h e := by
  rw [pay4_at, hx, hw]; rfl

/-- The reference's result over arrays whose rows are those of the arguments. -/
theorem out_of (q : Vec Ideal S256x8x64 .bf16) (xk xv : Vec Ideal S256x64 .bf16) (ki vi ks vs : Vec Ideal S256x1 .f32) (K V : Vec Ideal S256x32768x64 .fp8e4m3)
    (Q : Fin 64 → Fin 2048 → EReal) (kn vn : Fin 64 → Fin 4 → Fin 64 → EReal) (kw vw : Fin 4 → BitVec 32) (kc vc : Fin 64 → Fin 32768 → Fin 4 → Fin 64 → EReal)
    (hq : ∀ b r e, q (ix3 (row b (head r)) (grp r) e) = Q b (qcol r e))
    (hkn : ∀ b h e, xk (ix2 (row b h) e) = kn b h e) (hvn : ∀ b h e, xv (ix2 (row b h) e) = vn b h e)
    (hki : ∀ b h, ki (ix2 (row b h) 0) = step (kw h)) (hvi : ∀ b h, vi (ix2 (row b h) 0) = step (vw h))
    (hks : ∀ b h, ks (ix2 (row b h) 0) = Ideal.ofBits .f32 (kw h)) (hvs : ∀ b h, vs (ix2 (row b h) 0) = Ideal.ofBits .f32 (vw h))
    (hkc : ∀ b h j e, K (ix3 (row b h) j e) = kc b j h e) (hvc : ∀ b h j e, V (ix3 (row b h) j e) = vc b j h e)
    (b : Fin 64) (r : Fin 32) (d : Fin 64) :
    k0_pay1 (F := Ideal) (k0_pay8 (k0_pay4 xv vi) vs) (k0_pay9 V vs) (k0_pay13 (k0_pay2 q) (k0_pay7 xk ki ks) K ks) (k0_pay14 (k0_pay2 q) (k0_pay7 xk ki ks) K ks) (ix3 b r d)
      = out Q kn vn kw vw kc vc b r d := by
  have h10 (j : Fin 32768) : k0_pay10 (F := Ideal) (k0_pay2 q) K ks (ix3 (row b (head r)) (grp r) j)
      = (∑ e : Fin 64, Q b (qcol r e) * (kc b j (head r) e * Ideal.ofBits .f32 (kw (head r)))) * Ideal.ofBits .f32 0x3E000000#32 := by
    rw [pay10_at]
    refine congrArg (· * Ideal.ofBits .f32 0x3E000000#32) (Finset.sum_congr rfl fun e _ => ?_)
    rw [hkc, hks, show k0_pay2 (F := Ideal) q (ix3 (row b (head r)) (grp r) e) = q (ix3 (row b (head r)) (grp r) e) by pointwise [k0_pay2], hq]
  have h11 : k0_pay11 (F := Ideal) (k0_pay2 q) (k0_pay7 xk ki ks) (ix3 (row b (head r)) (grp r) 0)
      = (∑ e : Fin 64, Q b (qcol r e) * deq kn kw b (head r) e) * Ideal.ofBits .f32 0x3E000000#32 := by
    rw [pay11_at]
    refine congrArg (· * Ideal.ofBits .f32 0x3E000000#32) (Finset.sum_congr rfl fun e _ => ?_)
    rw [pay7_at, hks, code3 xk ki kn kw b (head r) e (hkn _ _ _) (hki _ _), show k0_pay2 (F := Ideal) q (ix3 (row b (head r)) (grp r) e) = q (ix3 (row b (head r)) (grp r) e) by pointwise [k0_pay2], hq]
    rfl
  have h9 (j : Fin 32768) : k0_pay9 (F := Ideal) V vs (ix3 (row b (head r)) j d) = vc b j (head r) d * Ideal.ofBits .f32 (vw (head r)) := by
    rw [pay9_at, hvc, hvs]
  have h8 : k0_pay8 (F := Ideal) (k0_pay4 xv vi) vs (ix2 (row b (head r)) d) = deq vn vw b (head r) d := by
    rw [pay8_at, hvs, code4 xv vi vn vw b (head r) d (hvn _ _ _) (hvi _ _)]
    rfl
  rw [pay1_at, h8, pay14_at, h11]
  simp only [pay13_at, h9, h10]
  rw [pay12_at, h11]
  simp only [h10]
  rfl

/-- The attention results of the run. -/
def yAll (c : Dev nD) : Vec Ideal S64x32x64 .bf16 := fun i =>
  out (aq m c) (akn m c) (avn m c) (akw m c) (avw m c) (akc m c) (avc m c) (i 0) (i 1) (i 2)

/-- The key codes of the run. -/
def kcAll (c : Dev nD) : Vec Ideal S64x256 .fp8e4m3 := fun i =>
  code (akn m c) (akw m c) (i 0) ⟨(i 1 : Fin 256) / 64, by have : (i 1 : ℕ) < 256 := (i 1).isLt; omega⟩ ⟨(i 1 : Fin 256) % 64, by omega⟩

/-- The value codes of the run. -/
def vcAll (c : Dev nD) : Vec Ideal S64x256 .fp8e4m3 := fun i =>
  code (avn m c) (avw m c) (i 0) ⟨(i 1 : Fin 256) / 64, by have : (i 1 : ℕ) < 256 := (i 1).isLt; omega⟩ ⟨(i 1 : Fin 256) % 64, by omega⟩

/-- Every window's block is its whole array. -/
theorem idx : win0_0.index t0_0 = ![0, 0, 0] ∧ win0_1.index t0_0 = ![0, 0] ∧ win0_2.index t0_0 = ![0, 0] ∧ win0_3.index t0_0 = ![0, 0] ∧ win0_4.index t0_0 = ![0, 0] ∧ win0_5.index t0_0 = ![0, 0] ∧ win0_6.index t0_0 = ![0, 0] ∧ win0_7.index t0_0 = ![0, 0, 0] ∧ win0_8.index t0_0 = ![0, 0, 0] ∧ win0_9.index t0_0 = ![0, 0, 0] ∧ win0_10.index t0_0 = ![0, 0] ∧ win0_11.index t0_0 = ![0, 0] := by
  decide +kernel

theorem iblk_0 (c : Dev nD) : iblk m c 0 t0_0 = (V m c main_v2 : Vec Ideal S256x8x64 .bf16) := by
  blk_ext! [iblk, idx]

theorem iblk_1 (c : Dev nD) : iblk m c 1 t0_0 = (V m c main_v3 : Vec Ideal S256x64 .bf16) := by
  blk_ext! [iblk, idx]

theorem iblk_2 (c : Dev nD) : iblk m c 2 t0_0 = (V m c main_v4 : Vec Ideal S256x64 .bf16) := by
  blk_ext! [iblk, idx]

theorem iblk_3 (c : Dev nD) : iblk m c 3 t0_0 = (V m c main_v38 : Vec Ideal S256x1 .f32) := by
  blk_ext! [iblk, idx]

theorem iblk_4 (c : Dev nD) : iblk m c 4 t0_0 = (V m c main_v72 : Vec Ideal S256x1 .f32) := by
  blk_ext! [iblk, idx]

theorem iblk_5 (c : Dev nD) : iblk m c 5 t0_0 = (V m c main_v76 : Vec Ideal S256x1 .f32) := by
  blk_ext! [iblk, idx]

theorem iblk_6 (c : Dev nD) : iblk m c 6 t0_0 = (V m c main_v80 : Vec Ideal S256x1 .f32) := by
  blk_ext! [iblk, idx]

theorem iblk_7 (c : Dev nD) : iblk m c 7 t0_0 = (V m c main_v82 : Vec Ideal S256x32768x64 .fp8e4m3) := by
  blk_ext! [iblk, idx]

theorem iblk_8 (c : Dev nD) : iblk m c 8 t0_0 = (V m c main_v84 : Vec Ideal S256x32768x64 .fp8e4m3) := by
  blk_ext! [iblk, idx]

/-- The queries as the body holds them. -/
theorem pay15_eq (x0 : Vec Ideal S256x8x64 .bf16) (x1 x2 : Vec Ideal S256x64 .bf16) (x3 x4 x5 x6 : Vec Ideal S256x1 .f32) (x7 x8 : Vec Ideal S256x32768x64 .fp8e4m3) :
    k0_pay15 (F := Ideal) x0 x1 x2 x3 x4 x5 x6 x7 x8 = k0_pay2 x0 := by
  unfold k0_pay15
  rw [View.ld_unit_zero (by funext a; fin_cases a <;> rfl)]

/-- The dequantised new keys as the body holds them. -/
theorem pay16_eq (x0 : Vec Ideal S256x8x64 .bf16) (x1 x2 : Vec Ideal S256x64 .bf16) (x3 x4 x5 x6 : Vec Ideal S256x1 .f32) (x7 x8 : Vec Ideal S256x32768x64 .fp8e4m3) :
    k0_pay16 (F := Ideal) x0 x1 x2 x3 x4 x5 x6 x7 x8 = k0_pay7 x1 x3 x5 := by
  unfold k0_pay16
  rw [View.ld_unit_zero (by funext a; fin_cases a <;> rfl), View.ld_unit_zero (by funext a; fin_cases a <;> rfl), View.ld_unit_zero (by funext a; fin_cases a <;> rfl)]

/-- What the reference leaves in its attention result. -/
theorem final9 (c : Dev nD) : (dats m 0 c).arrAt 9 cfg0.N = yAll m c := by
  refine (dats m 0 c).arrAt_eq_of_after_last 9 t0_0 (by decide +kernel) _ fun j => ?_
  blk_simp
  rw [after0_9, iblk_0, iblk_1, iblk_2, iblk_3, iblk_4, iblk_5, iblk_6, iblk_7, iblk_8]
  frame_out
  idx_vars j
  rw [pay15_eq, pay16_eq]
  exact out_of _ _ _ _ _ _ _ _ _ (aq m c) (akn m c) (avn m c) (akw m c) (avw m c) (akc m c) (avc m c) (q_at m c) (kn_at m c) (vn_at m c) (ki_at m c) (vi_at m c)
    (ks_at m c) (vs_at m c) (kc_at m c) (vc_at m c) j0 j1 j2

/-- What the reference leaves in its key codes. -/
theorem final10 (c : Dev nD) : (dats m 0 c).arrAt 10 cfg0.N = kcAll m c := by
  refine (dats m 0 c).arrAt_eq_of_after_last 10 t0_0 (by decide +kernel) _ fun j => ?_
  blk_simp
  rw [after0_10, iblk_0, iblk_1, iblk_2, iblk_3, iblk_4, iblk_5, iblk_6, iblk_7, iblk_8]
  frame_out
  idx_vars j
  exact (pay5_at _ _ j0 j1).trans (code3 _ _ (akn m c) (akw m c) j0 _ _ (kn_at m c _ _ _) (ki_at m c _ _))

/-- What the reference leaves in its value codes. -/
theorem final11 (c : Dev nD) : (dats m 0 c).arrAt 11 cfg0.N = vcAll m c := by
  refine (dats m 0 c).arrAt_eq_of_after_last 11 t0_0 (by decide +kernel) _ fun j => ?_
  blk_simp
  rw [after0_11, iblk_0, iblk_1, iblk_2, iblk_3, iblk_4, iblk_5, iblk_6, iblk_7, iblk_8]
  frame_out
  idx_vars j
  exact (pay6_at _ _ j0 j1).trans (code4 _ _ (avn m c) (avw m c) j0 _ _ (vn_at m c _ _ _) (vi_at m c _ _))

end Cert.ReferenceIdeal.Gen

end
-- ==== Proof.Agree.lean ====
/- The kernel and the reference, from memories that agree on the arguments, leave the same results. -/
module

public import proofs.«01_k».proof.Defs
public import proofs.«01_k».proof.Proof.KValue
public import proofs.«01_k».proof.Proof.RefValue
public import proofs.«01_k».proof.Proof.Gen.ReferenceIdeal.Value

@[expose] public section

set_option maxRecDepth 16384

noncomputable section

namespace Cert.Agree

open Idealize.ShloMosaic Idealize.ShloMosaic.TcCoe Idealize.ShloMosaic.Tactic
open Idealize.SL.Sem

/-- Codes of new rows, laid out one row per batch element and one column per head and place, are the kernel's key codes. -/
theorem kernel_kcodes (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hn : Cert.ReferenceIdeal.Gen.akn m' c = Cert.KernelIdeal.Gen.akn m c) (hw : Cert.ReferenceIdeal.Gen.akw m' c = Cert.KernelIdeal.Gen.akw m c) :
    Cert.ReferenceIdeal.Gen.kcAll m' c = Cert.KernelIdeal.Gen.kcW m c := by
  funext i
  idx_vars i
  rw [Cert.KernelIdeal.Gen.kcW_at, ← hn, ← hw]
  rfl

/-- Codes of new rows, laid out the same way, are the kernel's value codes. -/
theorem kernel_vcodes (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hn : Cert.ReferenceIdeal.Gen.avn m' c = Cert.KernelIdeal.Gen.avn m c) (hw : Cert.ReferenceIdeal.Gen.avw m' c = Cert.KernelIdeal.Gen.avw m c) :
    Cert.ReferenceIdeal.Gen.vcAll m' c = Cert.KernelIdeal.Gen.vcW m c := by
  funext i
  idx_vars i
  rw [Cert.KernelIdeal.Gen.vcW_at, ← hn, ← hw]
  rfl

/-- What the two programs return is the same: the attention results, the codes of the new keys and values, and the scales as they came. -/
theorem algebraic : Cert.algebraic_KernelIdeal_ReferenceIdeal (hKernelIdeal := Cert.KernelIdeal.Gen.facts) (hReferenceIdeal := Cert.ReferenceIdeal.Gen.facts) := by
  intro m g m' g' _ hagree
  have eq (c) : Cert.ReferenceIdeal.Gen.aq m' c = Cert.KernelIdeal.Gen.aq m c := by
    funext b x; exact congrFun (hagree c).1 _
  have ekn (c) : Cert.ReferenceIdeal.Gen.akn m' c = Cert.KernelIdeal.Gen.akn m c := by
    funext b h e; exact congrFun (hagree c).2.1 _
  have evn (c) : Cert.ReferenceIdeal.Gen.avn m' c = Cert.KernelIdeal.Gen.avn m c := by
    funext b h e; exact congrFun (hagree c).2.2.1 _
  have ekc (c) : Cert.ReferenceIdeal.Gen.akc m' c = Cert.KernelIdeal.Gen.akc m c := by
    funext b j h e; exact congrFun (hagree c).2.2.2.1 _
  have ekw (c) : Cert.ReferenceIdeal.Gen.akw m' c = Cert.KernelIdeal.Gen.akw m c := by
    funext h; exact congrFun (hagree c).2.2.2.2.1 _
  have evc (c) : Cert.ReferenceIdeal.Gen.avc m' c = Cert.KernelIdeal.Gen.avc m c := by
    funext b j h e; exact congrFun (hagree c).2.2.2.2.2.1 _
  have evw (c) : Cert.ReferenceIdeal.Gen.avw m' c = Cert.KernelIdeal.Gen.avw m c := by
    funext h; exact congrFun (hagree c).2.2.2.2.2.2 _
  have ey (c) : Cert.ReferenceIdeal.Gen.yAll m' c = Cert.KernelIdeal.Gen.yAll m c := by
    funext i
    unfold Cert.ReferenceIdeal.Gen.yAll
    rw [eq c, ekn c, evn c, ekw c, evw c, ekc c, evc c]
    rfl
  refine ⟨Cert.KernelIdeal.Gen.yAll m, Cert.KernelIdeal.Gen.kcW m, fun c => m ((c.tc : Thread Cert.KernelIdeal.nD Cert.KernelIdeal.τ).loc Cert.KernelIdeal.main_arg4),
    Cert.KernelIdeal.Gen.vcW m, fun c => m ((c.tc : Thread Cert.KernelIdeal.nD Cert.KernelIdeal.τ).loc Cert.KernelIdeal.main_arg6), ?_, ?_⟩
  · refine θ_run_mono (θ_run_and (Cert.KernelIdeal.Gen.run_main m g) (Cert.KernelIdeal.Gen.unchanged m g)) fun r hr c => ?_
    obtain ⟨hp, hu⟩ := hr
    obtain ⟨h0, h1, h2, h3, h4, h5, h6⟩ := hu c
    exact ⟨((hp c).1 9).trans (Cert.KernelIdeal.Gen.final9 m c), ((hp c).1 10).trans (Cert.KernelIdeal.Gen.final10 m c), h4,
      ((hp c).1 11).trans (Cert.KernelIdeal.Gen.final11 m c), h6, h0, h1, h2, h3, h4, h5, h6⟩
  · refine θ_run_mono (Cert.ReferenceIdeal.Value.run_blocks m' g') fun r hr c => ?_
    obtain ⟨p9, p10, p11, h0, h1, h2, h3, h4, h5, h6⟩ := hr c
    exact ⟨p9.trans ((Cert.ReferenceIdeal.Gen.final9 m' c).trans (ey c)),
      p10.trans ((Cert.ReferenceIdeal.Gen.final10 m' c).trans (kernel_kcodes m m' c (ekn c) (ekw c))), h4.trans (hagree c).2.2.2.2.1,
      p11.trans ((Cert.ReferenceIdeal.Gen.final11 m' c).trans (kernel_vcodes m m' c (evn c) (evw c))), h6.trans (hagree c).2.2.2.2.2.2,
      h0, h1, h2, h3, h4, h5, h6⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Agree

@[expose] public section

noncomputable section

namespace Cert.Proof

open Idealize.ShloMosaic Idealize.SL.Sem Cert.Kernel

/-- Everything claimed: the kernel, read with its own roundings and over the extended reals, and the reference each run to their ends, the
    arguments unchanged and the counters at zero; and over the extended reals the kernel and the reference return the same. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, Cert.Agree.algebraic⟩

end Cert.Proof

end
